-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S16x512 : Shape := ⟨2, ![16, 512]⟩
abbrev S16 : Shape := ⟨1, ![16]⟩
abbrev S_ : Shape := ⟨0, ![]⟩
abbrev S8 : Shape := ⟨1, ![8]⟩
abbrev S128x128 : Shape := ⟨2, ![128, 128]⟩
abbrev S512 : Shape := ⟨1, ![512]⟩
abbrev S1 : Shape := ⟨1, ![1]⟩
abbrev S128x512 : Shape := ⟨2, ![128, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S16x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_279 : BitVec 32 := 0#32
  let c0_i32_277 : BitVec 32 := 0#32
  let c1_i32_278 : BitVec 32 := 1#32
  let v360 : BitVec 32 := Scalar.muli c0_i32_277 c1_i32_278
  let v361 : BitVec 32 := Scalar.addi c0_i32_279 v360
  v361.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_279 : BitVec 32 := 0#32
  let c1_i32_277 : BitVec 32 := 1#32
  let c1_i32_278 : BitVec 32 := 1#32
  let v360 : BitVec 32 := Scalar.muli c1_i32_277 c1_i32_278
  let v361 : BitVec 32 := Scalar.addi c0_i32_279 v360
  v361.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_279 : BitVec 32 := 0#32
  let c2_i32_277 : BitVec 32 := 2#32
  let c1_i32_278 : BitVec 32 := 1#32
  let v360 : BitVec 32 := Scalar.muli c2_i32_277 c1_i32_278
  let v361 : BitVec 32 := Scalar.addi c0_i32_279 v360
  v361.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_279 : BitVec 32 := 0#32
  let c3_i32_277 : BitVec 32 := 3#32
  let c1_i32_278 : BitVec 32 := 1#32
  let v360 : BitVec 32 := Scalar.muli c3_i32_277 c1_i32_278
  let v361 : BitVec 32 := Scalar.addi c0_i32_279 v360
  v361.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_279 : BitVec 32 := 0#32
  let c4_i32_277 : BitVec 32 := 4#32
  let c1_i32_278 : BitVec 32 := 1#32
  let v360 : BitVec 32 := Scalar.muli c4_i32_277 c1_i32_278
  let v361 : BitVec 32 := Scalar.addi c0_i32_279 v360
  v361.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_279 : BitVec 32 := 0#32
  let c5_i32_277 : BitVec 32 := 5#32
  let c1_i32_278 : BitVec 32 := 1#32
  let v360 : BitVec 32 := Scalar.muli c5_i32_277 c1_i32_278
  let v361 : BitVec 32 := Scalar.addi c0_i32_279 v360
  v361.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_279 : BitVec 32 := 0#32
  let c6_i32_277 : BitVec 32 := 6#32
  let c1_i32_278 : BitVec 32 := 1#32
  let v360 : BitVec 32 := Scalar.muli c6_i32_277 c1_i32_278
  let v361 : BitVec 32 := Scalar.addi c0_i32_279 v360
  v361.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_279 : BitVec 32 := 0#32
  let c7_i32_277 : BitVec 32 := 7#32
  let c1_i32_278 : BitVec 32 := 1#32
  let v360 : BitVec 32 := Scalar.muli c7_i32_277 c1_i32_278
  let v361 : BitVec 32 := Scalar.addi c0_i32_279 v360
  v361.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_279 : BitVec 32 := 0#32
  let c8_i32_277 : BitVec 32 := 8#32
  let c1_i32_278 : BitVec 32 := 1#32
  let v360 : BitVec 32 := Scalar.muli c8_i32_277 c1_i32_278
  let v361 : BitVec 32 := Scalar.addi c0_i32_279 v360
  v361.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_279 : BitVec 32 := 0#32
  let c9_i32_277 : BitVec 32 := 9#32
  let c1_i32_278 : BitVec 32 := 1#32
  let v360 : BitVec 32 := Scalar.muli c9_i32_277 c1_i32_278
  let v361 : BitVec 32 := Scalar.addi c0_i32_279 v360
  v361.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_279 : BitVec 32 := 0#32
  let c10_i32_277 : BitVec 32 := 10#32
  let c1_i32_278 : BitVec 32 := 1#32
  let v360 : BitVec 32 := Scalar.muli c10_i32_277 c1_i32_278
  let v361 : BitVec 32 := Scalar.addi c0_i32_279 v360
  v361.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_279 : BitVec 32 := 0#32
  let c11_i32_277 : BitVec 32 := 11#32
  let c1_i32_278 : BitVec 32 := 1#32
  let v360 : BitVec 32 := Scalar.muli c11_i32_277 c1_i32_278
  let v361 : BitVec 32 := Scalar.addi c0_i32_279 v360
  v361.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_279 : BitVec 32 := 0#32
  let c12_i32_277 : BitVec 32 := 12#32
  let c1_i32_278 : BitVec 32 := 1#32
  let v360 : BitVec 32 := Scalar.muli c12_i32_277 c1_i32_278
  let v361 : BitVec 32 := Scalar.addi c0_i32_279 v360
  v361.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_279 : BitVec 32 := 0#32
  let c13_i32_277 : BitVec 32 := 13#32
  let c1_i32_278 : BitVec 32 := 1#32
  let v360 : BitVec 32 := Scalar.muli c13_i32_277 c1_i32_278
  let v361 : BitVec 32 := Scalar.addi c0_i32_279 v360
  v361.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_279 : BitVec 32 := 0#32
  let c14_i32_277 : BitVec 32 := 14#32
  let c1_i32_278 : BitVec 32 := 1#32
  let v360 : BitVec 32 := Scalar.muli c14_i32_277 c1_i32_278
  let v361 : BitVec 32 := Scalar.addi c0_i32_279 v360
  v361.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_279 : BitVec 32 := 0#32
  let c15_i32_277 : BitVec 32 := 15#32
  let c1_i32_278 : BitVec 32 := 1#32
  let v360 : BitVec 32 := Scalar.muli c15_i32_277 c1_i32_278
  let v361 : BitVec 32 := Scalar.addi c0_i32_279 v360
  v361.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_21 : BitVec 32 := 0#32
  let v63 : BitVec 1 := Scalar.cmpi .slt v2 c0_i32_21
  let v64 : BitVec 32 := Scalar.extui v63
  let c0_i32_23 : BitVec 32 := 0#32
  let v65 : BitVec 1 := Scalar.cmpi .ne v64 c0_i32_23
  v65

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev17 : Nat :=
  let c0_i32_278 : BitVec 32 := 0#32
  let c0_i32_276 : BitVec 32 := 0#32
  let c1_i32_277 : BitVec 32 := 1#32
  let v360 : BitVec 32 := Scalar.muli c0_i32_276 c1_i32_277
  let v361 : BitVec 32 := Scalar.addi c0_i32_278 v360
  v361.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_24 : BitVec 32 := 1#32
  let v66 : BitVec 1 := Scalar.cmpi .slt v2 c1_i32_24
  let v67 : BitVec 32 := Scalar.extui v66
  let c0_i32_26 : BitVec 32 := 0#32
  let v68 : BitVec 1 := Scalar.cmpi .ne v67 c0_i32_26
  v68

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev18 : Nat :=
  let c0_i32_278 : BitVec 32 := 0#32
  let c1_i32_276 : BitVec 32 := 1#32
  let c1_i32_277 : BitVec 32 := 1#32
  let v360 : BitVec 32 := Scalar.muli c1_i32_276 c1_i32_277
  let v361 : BitVec 32 := Scalar.addi c0_i32_278 v360
  v361.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let v69 : BitVec 1 := Scalar.cmpi .slt v2 c2_i32_27
  let v70 : BitVec 32 := Scalar.extui v69
  let c0_i32_29 : BitVec 32 := 0#32
  let v71 : BitVec 1 := Scalar.cmpi .ne v70 c0_i32_29
  v71

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev19 : Nat :=
  let c0_i32_278 : BitVec 32 := 0#32
  let c2_i32_276 : BitVec 32 := 2#32
  let c1_i32_277 : BitVec 32 := 1#32
  let v360 : BitVec 32 := Scalar.muli c2_i32_276 c1_i32_277
  let v361 : BitVec 32 := Scalar.addi c0_i32_278 v360
  v361.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_30 : BitVec 32 := 3#32
  let v72 : BitVec 1 := Scalar.cmpi .slt v2 c3_i32_30
  let v73 : BitVec 32 := Scalar.extui v72
  let c0_i32_32 : BitVec 32 := 0#32
  let v74 : BitVec 1 := Scalar.cmpi .ne v73 c0_i32_32
  v74

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev20 : Nat :=
  let c0_i32_278 : BitVec 32 := 0#32
  let c3_i32_276 : BitVec 32 := 3#32
  let c1_i32_277 : BitVec 32 := 1#32
  let v360 : BitVec 32 := Scalar.muli c3_i32_276 c1_i32_277
  let v361 : BitVec 32 := Scalar.addi c0_i32_278 v360
  v361.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_33 : BitVec 32 := 4#32
  let v75 : BitVec 1 := Scalar.cmpi .slt v2 c4_i32_33
  let v76 : BitVec 32 := Scalar.extui v75
  let c0_i32_35 : BitVec 32 := 0#32
  let v77 : BitVec 1 := Scalar.cmpi .ne v76 c0_i32_35
  v77

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev21 : Nat :=
  let c0_i32_278 : BitVec 32 := 0#32
  let c4_i32_276 : BitVec 32 := 4#32
  let c1_i32_277 : BitVec 32 := 1#32
  let v360 : BitVec 32 := Scalar.muli c4_i32_276 c1_i32_277
  let v361 : BitVec 32 := Scalar.addi c0_i32_278 v360
  v361.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_36 : BitVec 32 := 5#32
  let v78 : BitVec 1 := Scalar.cmpi .slt v2 c5_i32_36
  let v79 : BitVec 32 := Scalar.extui v78
  let c0_i32_38 : BitVec 32 := 0#32
  let v80 : BitVec 1 := Scalar.cmpi .ne v79 c0_i32_38
  v80

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev22 : Nat :=
  let c0_i32_278 : BitVec 32 := 0#32
  let c5_i32_276 : BitVec 32 := 5#32
  let c1_i32_277 : BitVec 32 := 1#32
  let v360 : BitVec 32 := Scalar.muli c5_i32_276 c1_i32_277
  let v361 : BitVec 32 := Scalar.addi c0_i32_278 v360
  v361.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_39 : BitVec 32 := 6#32
  let v81 : BitVec 1 := Scalar.cmpi .slt v2 c6_i32_39
  let v82 : BitVec 32 := Scalar.extui v81
  let c0_i32_41 : BitVec 32 := 0#32
  let v83 : BitVec 1 := Scalar.cmpi .ne v82 c0_i32_41
  v83

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev23 : Nat :=
  let c0_i32_278 : BitVec 32 := 0#32
  let c6_i32_276 : BitVec 32 := 6#32
  let c1_i32_277 : BitVec 32 := 1#32
  let v360 : BitVec 32 := Scalar.muli c6_i32_276 c1_i32_277
  let v361 : BitVec 32 := Scalar.addi c0_i32_278 v360
  v361.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_42 : BitVec 32 := 7#32
  let v84 : BitVec 1 := Scalar.cmpi .slt v2 c7_i32_42
  let v85 : BitVec 32 := Scalar.extui v84
  let c0_i32_44 : BitVec 32 := 0#32
  let v86 : BitVec 1 := Scalar.cmpi .ne v85 c0_i32_44
  v86

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev24 : Nat :=
  let c0_i32_278 : BitVec 32 := 0#32
  let c7_i32_276 : BitVec 32 := 7#32
  let c1_i32_277 : BitVec 32 := 1#32
  let v360 : BitVec 32 := Scalar.muli c7_i32_276 c1_i32_277
  let v361 : BitVec 32 := Scalar.addi c0_i32_278 v360
  v361.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_45 : BitVec 32 := 8#32
  let v87 : BitVec 1 := Scalar.cmpi .slt v2 c8_i32_45
  let v88 : BitVec 32 := Scalar.extui v87
  let c0_i32_47 : BitVec 32 := 0#32
  let v89 : BitVec 1 := Scalar.cmpi .ne v88 c0_i32_47
  v89

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev25 : Nat :=
  let c0_i32_278 : BitVec 32 := 0#32
  let c8_i32_276 : BitVec 32 := 8#32
  let c1_i32_277 : BitVec 32 := 1#32
  let v360 : BitVec 32 := Scalar.muli c8_i32_276 c1_i32_277
  let v361 : BitVec 32 := Scalar.addi c0_i32_278 v360
  v361.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_48 : BitVec 32 := 9#32
  let v90 : BitVec 1 := Scalar.cmpi .slt v2 c9_i32_48
  let v91 : BitVec 32 := Scalar.extui v90
  let c0_i32_50 : BitVec 32 := 0#32
  let v92 : BitVec 1 := Scalar.cmpi .ne v91 c0_i32_50
  v92

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev26 : Nat :=
  let c0_i32_278 : BitVec 32 := 0#32
  let c9_i32_276 : BitVec 32 := 9#32
  let c1_i32_277 : BitVec 32 := 1#32
  let v360 : BitVec 32 := Scalar.muli c9_i32_276 c1_i32_277
  let v361 : BitVec 32 := Scalar.addi c0_i32_278 v360
  v361.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_51 : BitVec 32 := 10#32
  let v93 : BitVec 1 := Scalar.cmpi .slt v2 c10_i32_51
  let v94 : BitVec 32 := Scalar.extui v93
  let c0_i32_53 : BitVec 32 := 0#32
  let v95 : BitVec 1 := Scalar.cmpi .ne v94 c0_i32_53
  v95

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev27 : Nat :=
  let c0_i32_278 : BitVec 32 := 0#32
  let c10_i32_276 : BitVec 32 := 10#32
  let c1_i32_277 : BitVec 32 := 1#32
  let v360 : BitVec 32 := Scalar.muli c10_i32_276 c1_i32_277
  let v361 : BitVec 32 := Scalar.addi c0_i32_278 v360
  v361.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_54 : BitVec 32 := 11#32
  let v96 : BitVec 1 := Scalar.cmpi .slt v2 c11_i32_54
  let v97 : BitVec 32 := Scalar.extui v96
  let c0_i32_56 : BitVec 32 := 0#32
  let v98 : BitVec 1 := Scalar.cmpi .ne v97 c0_i32_56
  v98

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev28 : Nat :=
  let c0_i32_278 : BitVec 32 := 0#32
  let c11_i32_276 : BitVec 32 := 11#32
  let c1_i32_277 : BitVec 32 := 1#32
  let v360 : BitVec 32 := Scalar.muli c11_i32_276 c1_i32_277
  let v361 : BitVec 32 := Scalar.addi c0_i32_278 v360
  v361.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_57 : BitVec 32 := 12#32
  let v99 : BitVec 1 := Scalar.cmpi .slt v2 c12_i32_57
  let v100 : BitVec 32 := Scalar.extui v99
  let c0_i32_59 : BitVec 32 := 0#32
  let v101 : BitVec 1 := Scalar.cmpi .ne v100 c0_i32_59
  v101

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev29 : Nat :=
  let c0_i32_278 : BitVec 32 := 0#32
  let c12_i32_276 : BitVec 32 := 12#32
  let c1_i32_277 : BitVec 32 := 1#32
  let v360 : BitVec 32 := Scalar.muli c12_i32_276 c1_i32_277
  let v361 : BitVec 32 := Scalar.addi c0_i32_278 v360
  v361.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_60 : BitVec 32 := 13#32
  let v102 : BitVec 1 := Scalar.cmpi .slt v2 c13_i32_60
  let v103 : BitVec 32 := Scalar.extui v102
  let c0_i32_62 : BitVec 32 := 0#32
  let v104 : BitVec 1 := Scalar.cmpi .ne v103 c0_i32_62
  v104

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev30 : Nat :=
  let c0_i32_278 : BitVec 32 := 0#32
  let c13_i32_276 : BitVec 32 := 13#32
  let c1_i32_277 : BitVec 32 := 1#32
  let v360 : BitVec 32 := Scalar.muli c13_i32_276 c1_i32_277
  let v361 : BitVec 32 := Scalar.addi c0_i32_278 v360
  v361.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_63 : BitVec 32 := 14#32
  let v105 : BitVec 1 := Scalar.cmpi .slt v2 c14_i32_63
  let v106 : BitVec 32 := Scalar.extui v105
  let c0_i32_65 : BitVec 32 := 0#32
  let v107 : BitVec 1 := Scalar.cmpi .ne v106 c0_i32_65
  v107

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev31 : Nat :=
  let c0_i32_278 : BitVec 32 := 0#32
  let c14_i32_276 : BitVec 32 := 14#32
  let c1_i32_277 : BitVec 32 := 1#32
  let v360 : BitVec 32 := Scalar.muli c14_i32_276 c1_i32_277
  let v361 : BitVec 32 := Scalar.addi c0_i32_278 v360
  v361.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_66 : BitVec 32 := 15#32
  let v108 : BitVec 1 := Scalar.cmpi .slt v2 c15_i32_66
  let v109 : BitVec 32 := Scalar.extui v108
  let c0_i32_68 : BitVec 32 := 0#32
  let v110 : BitVec 1 := Scalar.cmpi .ne v109 c0_i32_68
  v110

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_279 : BitVec 32 := 0#32
  ![v2.toNat, 0]
def k0_dev32 : Nat :=
  let c0_i32_278 : BitVec 32 := 0#32
  let c15_i32_276 : BitVec 32 := 15#32
  let c1_i32_277 : BitVec 32 := 1#32
  let v360 : BitVec 32 := Scalar.muli c15_i32_276 c1_i32_277
  let v361 : BitVec 32 := Scalar.addi c0_i32_278 v360
  v361.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_228 : BitVec 32 := 0#32
  let v312 : BitVec 1 := Scalar.cmpi .slt v2 c0_i32_228
  let v313 : BitVec 32 := Scalar.extui v312
  let c0_i32_230 : BitVec 32 := 0#32
  let v314 : BitVec 1 := Scalar.cmpi .ne v313 c0_i32_230
  v314

def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_231 : BitVec 32 := 1#32
  let v315 : BitVec 1 := Scalar.cmpi .slt v2 c1_i32_231
  let v316 : BitVec 32 := Scalar.extui v315
  let c0_i32_233 : BitVec 32 := 0#32
  let v317 : BitVec 1 := Scalar.cmpi .ne v316 c0_i32_233
  v317

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_234 : BitVec 32 := 2#32
  let v318 : BitVec 1 := Scalar.cmpi .slt v2 c2_i32_234
  let v319 : BitVec 32 := Scalar.extui v318
  let c0_i32_236 : BitVec 32 := 0#32
  let v320 : BitVec 1 := Scalar.cmpi .ne v319 c0_i32_236
  v320

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_237 : BitVec 32 := 3#32
  let v321 : BitVec 1 := Scalar.cmpi .slt v2 c3_i32_237
  let v322 : BitVec 32 := Scalar.extui v321
  let c0_i32_239 : BitVec 32 := 0#32
  let v323 : BitVec 1 := Scalar.cmpi .ne v322 c0_i32_239
  v323

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_240 : BitVec 32 := 4#32
  let v324 : BitVec 1 := Scalar.cmpi .slt v2 c4_i32_240
  let v325 : BitVec 32 := Scalar.extui v324
  let c0_i32_242 : BitVec 32 := 0#32
  let v326 : BitVec 1 := Scalar.cmpi .ne v325 c0_i32_242
  v326

def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_243 : BitVec 32 := 5#32
  let v327 : BitVec 1 := Scalar.cmpi .slt v2 c5_i32_243
  let v328 : BitVec 32 := Scalar.extui v327
  let c0_i32_245 : BitVec 32 := 0#32
  let v329 : BitVec 1 := Scalar.cmpi .ne v328 c0_i32_245
  v329

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_246 : BitVec 32 := 6#32
  let v330 : BitVec 1 := Scalar.cmpi .slt v2 c6_i32_246
  let v331 : BitVec 32 := Scalar.extui v330
  let c0_i32_248 : BitVec 32 := 0#32
  let v332 : BitVec 1 := Scalar.cmpi .ne v331 c0_i32_248
  v332

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_249 : BitVec 32 := 7#32
  let v333 : BitVec 1 := Scalar.cmpi .slt v2 c7_i32_249
  let v334 : BitVec 32 := Scalar.extui v333
  let c0_i32_251 : BitVec 32 := 0#32
  let v335 : BitVec 1 := Scalar.cmpi .ne v334 c0_i32_251
  v335

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_252 : BitVec 32 := 8#32
  let v336 : BitVec 1 := Scalar.cmpi .slt v2 c8_i32_252
  let v337 : BitVec 32 := Scalar.extui v336
  let c0_i32_254 : BitVec 32 := 0#32
  let v338 : BitVec 1 := Scalar.cmpi .ne v337 c0_i32_254
  v338

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_255 : BitVec 32 := 9#32
  let v339 : BitVec 1 := Scalar.cmpi .slt v2 c9_i32_255
  let v340 : BitVec 32 := Scalar.extui v339
  let c0_i32_257 : BitVec 32 := 0#32
  let v341 : BitVec 1 := Scalar.cmpi .ne v340 c0_i32_257
  v341

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_258 : BitVec 32 := 10#32
  let v342 : BitVec 1 := Scalar.cmpi .slt v2 c10_i32_258
  let v343 : BitVec 32 := Scalar.extui v342
  let c0_i32_260 : BitVec 32 := 0#32
  let v344 : BitVec 1 := Scalar.cmpi .ne v343 c0_i32_260
  v344

def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_261 : BitVec 32 := 11#32
  let v345 : BitVec 1 := Scalar.cmpi .slt v2 c11_i32_261
  let v346 : BitVec 32 := Scalar.extui v345
  let c0_i32_263 : BitVec 32 := 0#32
  let v347 : BitVec 1 := Scalar.cmpi .ne v346 c0_i32_263
  v347

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_264 : BitVec 32 := 12#32
  let v348 : BitVec 1 := Scalar.cmpi .slt v2 c12_i32_264
  let v349 : BitVec 32 := Scalar.extui v348
  let c0_i32_266 : BitVec 32 := 0#32
  let v350 : BitVec 1 := Scalar.cmpi .ne v349 c0_i32_266
  v350

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_267 : BitVec 32 := 13#32
  let v351 : BitVec 1 := Scalar.cmpi .slt v2 c13_i32_267
  let v352 : BitVec 32 := Scalar.extui v351
  let c0_i32_269 : BitVec 32 := 0#32
  let v353 : BitVec 1 := Scalar.cmpi .ne v352 c0_i32_269
  v353

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_270 : BitVec 32 := 14#32
  let v354 : BitVec 1 := Scalar.cmpi .slt v2 c14_i32_270
  let v355 : BitVec 32 := Scalar.extui v354
  let c0_i32_272 : BitVec 32 := 0#32
  let v356 : BitVec 1 := Scalar.cmpi .ne v355 c0_i32_272
  v356

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_273 : BitVec 32 := 15#32
  let v357 : BitVec 1 := Scalar.cmpi .slt v2 c15_i32_273
  let v358 : BitVec 32 := Scalar.extui v357
  let c0_i32_275 : BitVec 32 := 0#32
  let v359 : BitVec 1 := Scalar.cmpi .ne v358 c0_i32_275
  v359

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_278 : BitVec 32 := 0#32
  ![v2.toNat, 0]
-- ==== ReferenceIdeal.lean ====
abbrev S16384x512 : Shape := ⟨2, ![16384, 512]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S_, .f32⟩
  | .hbm, ⟨3, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Proof.Protocol.lean ====
/-
The protocol of the distributed prefix sum: which semaphore cells there are, who pays each of them, how much and what
the payment carries.

* Barrier cell of device `c`: one unit from every other device. Device `d > c`'s unit carries `d`'s row `c` of its
  gather buffer, so that `c` may write its total there; a unit from a device below `c` carries nothing.
* Receive cell `j` of device `c` (`j < c`): the credit of one row, paid by device `j`'s transfer; it carries row `j` of
  `c`'s gather buffer holding device `j`'s column totals.
* Send cell `j` of device `c` (`c < j`): the credit of one row, paid by `c`'s own transfer to `j`; it gives back the
  share of the totals buffer lent to that transfer.

Everything happens once: round 0 is the only round with a duty.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the pipeline's, the protocol's (duties named by devices), the local transfers' -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the protocol's own rounds live. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER (F := F)).LandsIn (upEmb : UEmb _ 𝕄) := by unfold ER; infer_instance

/-! ## Cells and memrefs -/

abbrev barS : Sem sig := (SemArray.scalar (sig.barrier 0 rfl) : Sems sig S_).sem
def sendS (j : Dev nD) : DmaSem sig := ⟨j.val, by have := j.isLt; change _ < 41; change _ < 16 at this; omega⟩
def recvS (j : Dev nD) : DmaSem sig := ⟨16 + j.val, by have := j.isLt; change _ < 41; change _ < 16 at this; omega⟩
abbrev inS : DmaSem sig := cc0_scratch6.sem
def outS (g : Fin 8) : DmaSem sig := ⟨33 + g.val, by have := g.isLt; change _ < 41; omega⟩

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

/-- The kind of a shared cell: the barrier, a send cell, a receive cell. -/
abbrev CK : Type := Unit ⊕ (Dev nD ⊕ Dev nD)
def csem : CK → SemLoc sig
  | .inl _ => .reg barS
  | .inr (.inl j) => .dma (sendS j)
  | .inr (.inr j) => .dma (recvS j)
abbrev kcell (ck : Dev nD × CK) : GSem nD τ sig := ((ck.1 : Thread nD τ), csem ck.2)

theorem sendS_val (j : Dev nD) : (sendS j).val = j.val := rfl
theorem recvS_val (j : Dev nD) : (recvS j).val = 16 + j.val := rfl
theorem outS_val (g : Fin 8) : (outS g).val = 33 + g.val := rfl
theorem inS_val : (inS : DmaSem sig).val = 32 := by decide

abbrev xM : Memref sig .tc .hbm S1024x512 .f32 := Memref.whole main_arg0
abbrev oM : Memref sig .tc .hbm S1024x512 .f32 := Memref.whole main_v1
abbrev xvM : Memref sig .tc .vmem S1024x512 .f32 := Memref.whole cc0_scratch0
abbrev stM : Memref sig .tc .vmem S1024x512 .f32 := Memref.whole cc0_scratch1
abbrev totM : Memref sig .tc .vmem S1x512 .f32 := Memref.whole cc0_scratch2
abbrev comM : Memref sig .tc .vmem S16x512 .f32 := Memref.whole cc0_scratch3

theorem inbRow (j : Dev nD) : ∀ a, (![j.val, 0] : Fin 2 → Nat) a + S1x512.size a ≤ S16x512.size a := by
  revert j; decide
/-- Row `j` of the gather buffer. -/
abbrev rowM (j : Dev nD) : Memref sig .tc .vmem S1x512 .f32 :=
  comM.slice (Rect.unit (s := S16x512) ![j.val, 0] S1x512.size (inbRow j)) (fun _ => rfl)

/-- The credit of one row's transfer. -/
abbrev N : ℕ := (totM : Memref sig .tc .vmem S1x512 .f32).view.dmaCredit
theorem N_pos : 0 < N := View.dmaCredit_pos _ (by decide)
theorem rowM_credit (j : Dev nD) : (rowM j).view.dmaCredit = N := rfl

/-- Which elements of the gather buffer row `j` has. -/
theorem mem_row (j : Dev nD) (i : (cc0_scratch3 : Ref sig .tc).ty.shape.Idx) : i ∈ (rowM j).view.set ↔ (i 0).val = j.val := by
  show i ∈ ((View.whole cc0_scratch3).slice (Rect.unit (s := S16x512) ![j.val, 0] S1x512.size (inbRow j))).set ↔ _
  rw [View.set_slice_whole, Rect.mem_set_unit]
  constructor
  · intro h
    have h0 := h 0
    change j.val ≤ (i 0).val ∧ (i 0).val < j.val + 1 at h0
    omega
  · intro h a
    refine Fin.cases ?_ (fun a => ?_) a
    · show j.val ≤ (i 0).val ∧ (i 0).val < j.val + 1
      omega
    · have h1 : a = 0 := Subsingleton.elim _ _
      subst h1
      show 0 ≤ (i 1).val ∧ (i 1).val < 0 + 512
      have := (i 1).isLt
      change (i 1).val < 512 at this
      omega

theorem row_disjoint (j j' : Dev nD) (h : j ≠ j') : Disjoint (rowM j).view.set (rowM j').view.set := by
  rw [Finset.disjoint_left]
  intro i hi hi'
  exact h (Fin.ext (((mem_row j i).mp hi).symm.trans ((mem_row j' i).mp hi')))

/-- Those elements, as indices of the buffer. -/
abbrev rowSet (j : Dev nD) : Finset (cc0_scratch3 : Ref sig .tc).ty.shape.Idx := (rowM j).view.set
theorem row_cover : Finset.univ.biUnion rowSet = Finset.univ := by
  ext i
  simp only [Finset.mem_biUnion, Finset.mem_univ, true_and, iff_true]
  exact ⟨⟨(i 0).val, (i 0).isLt⟩, (mem_row _ i).mpr rfl⟩

/-! ## Contents -/

variable (m : (ℓ : Loc nD τ sig) → Buf (Elt F) ℓ) (ρ : Dev nD → PrngReg)

/-- Device `c`'s block of the argument. -/
def xB (c : Dev nD) : Vec F S1024x512 .f32 := m ((c : Thread nD τ).loc main_arg0)
/-- Its column totals, as the kernel computes them. -/
def totB (c : Dev nD) : Vec F S1x512 .f32 := k0_pay3 (k0_pay2 (xB m c))
/-- Column `k` of a one-row array. -/
def rowIx (k : Fin 512) : S1x512.Idx
  | ⟨0, _⟩ => (⟨0, Nat.one_pos⟩ : Fin 1)
  | ⟨1, _⟩ => k
/-- The gather buffer with every row in. -/
def comB : Vec F S16x512 .f32 := fun i => totB m (i 0) (rowIx (i 1))

/-- Row `j` of `c`'s gather buffer, at contents `f`. -/
def rowPts (c j : Dev nD) (f : (cc0_scratch3 : Ref sig .tc).ty.Contents (Elt F)) : sProp 𝕄 :=
  (rowM j).view.loc (c : Thread nD τ) ↦[(rowM j).view.set]{fullShare} f
/-- Device `c`'s totals, at a share. -/
def totPts (c : Dev nD) (q : PosShare TreeShare) : sProp 𝕄 :=
  totM.view.loc (c : Thread nD τ) ↦[totM.view.set]{q} (totB m c : (cc0_scratch2 : Ref sig .tc).ty.Contents (Elt F))
/-- The share of the totals lent to the transfer to device `j`. -/
abbrev lent (j : Dev nD) : PosShare TreeShare := shareTok fullShare nD j

omit [FloatOps F] in
instance rowPts_storable (c j : Dev nD) (f) : BI.Storable (upEmb : UEmb _ 𝕄) (rowPts (F := F) c j f) := by unfold rowPts; infer_instance
instance totPts_storable (c : Dev nD) (q) : BI.Storable (upEmb : UEmb _ 𝕄) (totPts (F := F) m c q) := by unfold totPts; infer_instance

/-! ## The schedule -/

/-- Whether `d` names a duty of device `c`'s cell `sm`. -/
def IsDuty (c : Dev nD) (d : Dev nD) : SemLoc sig → Prop
  | .reg _ => d ≠ c
  | .dma k => (k.val = d.val ∧ c < d) ∨ (k.val = 16 + d.val ∧ d < c)
instance (c d : Dev nD) (sm : SemLoc sig) : Decidable (IsDuty c d sm) := by
  cases sm <;> (unfold IsDuty; infer_instance)

/-- What device `d`'s unit on device `c`'s barrier cell carries. -/
def barPay (c d : Dev nD) : sProp 𝕄 := if c < d then iprop(∃ f, rowPts (F := F) d c f) else iprop(emp)

def payAt (c d : Dev nD) : SemLoc sig → sProp 𝕄
  | .reg _ => barPay c d
  | .dma k => if k.val < 16 then totPts m c (lent d) else rowPts c d (comB m)

def sched : Rounds.Schedule (GSem nD τ sig) (Dev nD) 𝕄 where
  duties g r := if r = 0 then Finset.univ.filter (fun d => IsDuty g.1.1 d g.2) else ∅
  unitless _ := False
  amount g _ _ := match g.2 with | .reg _ => 1 | .dma _ => N
  payload g _ d := payAt m g.1.1 d g.2
  amount_pos g _ _ _ := by
    cases g.2 with
    | reg _ => exact Nat.one_pos
    | dma _ => exact N_pos

instance sched_payload_storable (g : GSem nD τ sig) (r : ℕ) (d : Dev nD) :
    BI.Storable (upEmb : UEmb _ 𝕄) ((sched (F := F) m).payload g r d) := by
  show BI.Storable upEmb (payAt m g.1.1 d g.2)
  cases g.2 with
  | reg _ =>
    show BI.Storable upEmb (barPay g.1.1 d)
    unfold barPay; split <;> infer_instance
  | dma k =>
    show BI.Storable upEmb (if k.val < 16 then totPts m g.1.1 (lent d) else rowPts g.1.1 d (comB m))
    split <;> infer_instance

section Sched
variable (c : Dev nD)

theorem duties_bar : (sched (F := F) m).duties (barCell c) 0 = Finset.univ.filter (fun d => d ≠ c) := rfl
theorem mem_duties_bar {d : Dev nD} (h : d ≠ c) : d ∈ (sched (F := F) m).duties (barCell c) 0 := by
  rw [duties_bar]; exact Finset.mem_filter.mpr ⟨Finset.mem_univ _, h⟩

theorem duties_send (j : Dev nD) : (sched (F := F) m).duties (sendCell c j) 0 = if c < j then {j} else ∅ := by
  ext d
  show d ∈ Finset.univ.filter (fun d => (j.val = d.val ∧ c < d) ∨ (j.val = 16 + d.val ∧ d < c)) ↔ _
  have hj : j.val < 16 := j.isLt
  split
  · rw [Finset.mem_singleton, Finset.mem_filter]
    constructor
    · rintro ⟨-, ⟨h, -⟩ | ⟨h, -⟩⟩
      · exact Fin.ext h.symm
      · omega
    · rintro rfl; exact ⟨Finset.mem_univ _, .inl ⟨rfl, by assumption⟩⟩
  · rename_i hn
    rw [Finset.mem_filter]
    refine iff_of_false ?_ (Finset.notMem_empty _)
    rintro ⟨-, ⟨h, h'⟩ | ⟨h, -⟩⟩
    · rw [Fin.ext h] at hn; exact hn h'
    · omega

theorem duties_recv (j : Dev nD) : (sched (F := F) m).duties (recvCell c j) 0 = if j < c then {j} else ∅ := by
  ext d
  show d ∈ Finset.univ.filter (fun d => (16 + j.val = d.val ∧ c < d) ∨ (16 + j.val = 16 + d.val ∧ d < c)) ↔ _
  have hd : d.val < 16 := d.isLt
  split
  · rw [Finset.mem_singleton, Finset.mem_filter]
    constructor
    · rintro ⟨-, ⟨h, -⟩ | ⟨h, -⟩⟩
      · omega
      · exact Fin.ext (by omega)
    · rintro rfl; exact ⟨Finset.mem_univ _, .inr ⟨rfl, by assumption⟩⟩
  · rename_i hn
    rw [Finset.mem_filter]
    refine iff_of_false ?_ (Finset.notMem_empty _)
    rintro ⟨-, ⟨h, -⟩ | ⟨h, h'⟩⟩
    · omega
    · rw [show j = d from Fin.ext (by omega)] at hn; exact hn h'

theorem duties_later (g : GSem nD τ sig) : ∀ r, 1 ≤ r → (sched (F := F) m).duties g r = ∅ :=
  fun r hr => if_neg (by omega)

/-- A send or receive cell no transfer of this kernel touches has no duty at all. -/
theorem duties_none (g : GSem nD τ sig) (h : (sched (F := F) m).duties g 0 = ∅) : ∀ r, 0 ≤ r → (sched (F := F) m).duties g r = ∅ :=
  fun r _ => by
    rcases Nat.eq_zero_or_pos r with rfl | hr
    · exact h
    · exact duties_later m g r hr

theorem expect_bar : (sched (F := F) m).expect (barCell c) 0 = 15 := by
  unfold Schedule.expect Schedule.amountOf
  rw [duties_bar]
  show ∑ d ∈ Finset.univ.filter (fun d => d ≠ c), 1 = 15
  rw [Finset.sum_const, smul_eq_mul, mul_one]
  revert c; decide

theorem expect_send {j : Dev nD} (h : c < j) : (sched (F := F) m).expect (sendCell c j) 0 = N := by
  unfold Schedule.expect Schedule.amountOf; rw [duties_send, if_pos h, Finset.sum_singleton]; rfl
theorem expect_recv {j : Dev nD} (h : j < c) : (sched (F := F) m).expect (recvCell c j) 0 = N := by
  unfold Schedule.expect Schedule.amountOf; rw [duties_recv, if_pos h, Finset.sum_singleton]; rfl

theorem payload_send (j d : Dev nD) : (sched (F := F) m).payload (sendCell c j) 0 d = totPts m c (lent d) := by
  show (if (sendS j).val < 16 then totPts m c (lent d) else rowPts c d (comB m)) = _
  exact if_pos j.isLt
theorem payload_recv (j d : Dev nD) : (sched (F := F) m).payload (recvCell c j) 0 d = rowPts c d (comB m) := by
  show (if (recvS j).val < 16 then totPts m c (lent d) else rowPts c d (comB m)) = _
  exact if_neg (by rw [recvS_val]; omega)

theorem rest_bar : bigSep ((sched (F := F) m).duties (barCell c) 0 \ ∅) (fun d => (sched (F := F) m).payload (barCell c) 0 d)
    = bigSep (Finset.univ.filter (fun d => d ≠ c)) (fun d => barPay (F := F) c d) := by
  rw [Finset.sdiff_empty, duties_bar]; rfl
theorem rest_send {j : Dev nD} (h : c < j) :
    bigSep ((sched (F := F) m).duties (sendCell c j) 0 \ ∅) (fun d => (sched (F := F) m).payload (sendCell c j) 0 d) = totPts m c (lent j) := by
  rw [Finset.sdiff_empty, duties_send, if_pos h, bigSep_singleton, payload_send]
theorem rest_recv {j : Dev nD} (h : j < c) :
    bigSep ((sched (F := F) m).duties (recvCell c j) 0 \ ∅) (fun d => (sched (F := F) m).payload (recvCell c j) 0 d) = rowPts c j (comB m) := by
  rw [Finset.sdiff_empty, duties_recv, if_pos h, bigSep_singleton, payload_recv]

end Sched

/-! ## What is owed and at which level -/

/-- The barrier units device `c` still owes from device `k` on; -/
def barO (c : Dev nD) (k : ℕ) : CellTallies nD τ sig Unit :=
  ∑ j ∈ Finset.univ.filter (fun j : Dev nD => c ≠ j ∧ k ≤ j.val), tallyAt (barCell j) () 1
/-- the receive credits it still owes from device `k` on. -/
def rcvO (c : Dev nD) (k : ℕ) : CellTallies nD τ sig Unit :=
  ∑ j ∈ Finset.univ.filter (fun j : Dev nD => c < j ∧ k ≤ j.val), tallyAt (recvCell j c) () N
def O₀ (c : Dev nD) : CellTallies nD τ sig Unit := rcvO c 0 + barO c 0

/-- A filtered sum "from `k` on": the `k`-th summand split off, -/
theorem sumFrom_take {M : Type} [AddCommMonoid M] (p : Dev nD → Prop) [DecidablePred p] (f : Dev nD → M) (k : Dev nD) (h : p k) :
    ∑ j ∈ Finset.univ.filter (fun j : Dev nD => p j ∧ k.val ≤ j.val), f j
      = (∑ j ∈ Finset.univ.filter (fun j : Dev nD => p j ∧ k.val + 1 ≤ j.val), f j) + f k := by
  have e : Finset.univ.filter (fun j : Dev nD => p j ∧ k.val ≤ j.val)
      = insert k (Finset.univ.filter (fun j : Dev nD => p j ∧ k.val + 1 ≤ j.val)) := by
    ext j
    simp only [Finset.mem_filter, Finset.mem_univ, true_and, Finset.mem_insert]
    constructor
    · rintro ⟨hp, hk⟩
      rcases Nat.eq_or_lt_of_le hk with e | e
      · exact .inl (Fin.ext e.symm)
      · exact .inr ⟨hp, e⟩
    · rintro (rfl | ⟨hp, hk⟩)
      · exact ⟨h, Nat.le_refl _⟩
      · exact ⟨hp, Nat.le_of_succ_le hk⟩
  rw [e, Finset.sum_insert (by simp), add_comm]
/-- or absent. -/
theorem sumFrom_skip {M : Type} [AddCommMonoid M] (p : Dev nD → Prop) [DecidablePred p] (f : Dev nD → M) (k : Dev nD) (h : ¬ p k) :
    ∑ j ∈ Finset.univ.filter (fun j : Dev nD => p j ∧ k.val ≤ j.val), f j
      = ∑ j ∈ Finset.univ.filter (fun j : Dev nD => p j ∧ k.val + 1 ≤ j.val), f j := by
  congr 1
  ext j
  simp only [Finset.mem_filter, Finset.mem_univ, true_and]
  constructor
  · rintro ⟨hp, hk⟩
    rcases Nat.eq_or_lt_of_le hk with e | e
    · exact absurd (show p k from (Fin.ext e : k = j) ▸ hp) h
    · exact ⟨hp, e⟩
  · rintro ⟨hp, hk⟩; exact ⟨hp, Nat.le_of_succ_le hk⟩
theorem sumFrom_end {M : Type} [AddCommMonoid M] (p : Dev nD → Prop) [DecidablePred p] (f : Dev nD → M) :
    ∑ j ∈ Finset.univ.filter (fun j : Dev nD => p j ∧ 16 ≤ j.val), f j = 0 := by
  rw [Finset.filter_false_of_mem, Finset.sum_empty]
  rintro j - ⟨-, h⟩
  have := j.isLt; change j.val < 16 at this; omega

theorem barO_end (c : Dev nD) : barO c 16 = 0 := sumFrom_end (fun j => c ≠ j) _
theorem rcvO_end (c : Dev nD) : rcvO c 16 = 0 := sumFrom_end (fun j => c < j) _

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma k => if 16 ≤ k.val ∧ k.val < 32 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c j : Dev nD) : lv (recvCell c j) () = 2 := by
  show (if 16 ≤ (recvS j).val ∧ (recvS j).val < 32 then 2 else 0) = 2
  have := j.isLt; change j.val < 16 at this
  rw [recvS_val, if_pos (by omega)]

theorem sum_tally_pos {ι : Type} (S : Finset ι) (cell : ι → GSem nD τ sig) (n : ℕ) {g : GSem nD τ sig} {u : Unit}
    (h : 0 < (∑ j ∈ S, tallyAt (cell j) () n) g u) : ∃ j ∈ S, g = cell j := by
  rw [Finset.sum_apply, Finsupp.finset_sum_apply] at h
  obtain ⟨j, hj, hp⟩ := Finset.exists_ne_zero_of_sum_ne_zero (Nat.pos_iff_ne_zero.mp h)
  rw [tallyAt_apply] at hp
  refine ⟨j, hj, ?_⟩
  by_contra hn
  exact hp (if_neg fun h' => hn h'.1)

theorem rcvO_pos {c : Dev nD} {k : ℕ} {g : GSem nD τ sig} {u : Unit} (h : 0 < rcvO c k g u) : ∃ j, c < j ∧ g = recvCell j c := by
  obtain ⟨j, hj, e⟩ := sum_tally_pos _ (fun j => recvCell j c) N h
  exact ⟨j, (Finset.mem_filter.mp hj).2.1, e⟩
theorem barO_pos {c : Dev nD} {k : ℕ} {g : GSem nD τ sig} {u : Unit} (h : 0 < barO c k g u) : ∃ j, c ≠ j ∧ g = barCell j := by
  obtain ⟨j, hj, e⟩ := sum_tally_pos _ (fun j => barCell j) 1 h
  exact ⟨j, (Finset.mem_filter.mp hj).2.1, e⟩

/-- A wait below level 2 may happen while receive credits only are owed. -/
theorem mayWait_low (c : Dev nD) (sm : SemLoc sig) (h : lv ((c : Thread nD τ), sm) () < 2) (k : ℕ) :
    (levAts L lv : sProp 𝕄) ⊢ MayWait (c : Thread nD τ) sm () (rcvO c k) :=
  MayOwe.of_cut (L := L) (lev := lv) 1 (fun p hp => by rw [Finset.mem_singleton.mp hp, L_tc]; exact Finset.mem_singleton_self _)
    (fun g u hg => by obtain ⟨j, -, rfl⟩ := rcvO_pos hg; exact Finset.mem_singleton_self _)
    (fun p hp => by rw [Finset.mem_singleton.mp hp]; exact Nat.le_of_lt_succ h)
    (fun g u hg => by obtain ⟨j, -, rfl⟩ := rcvO_pos hg; rw [lv_recv]; decide)

/-! ## The protocol's persistent records -/

/-- Every shared cell's invariant, under the names `K`, that it has reached round 0, and the cells' levels. -/
def recs (K : Dev nD × CK → ℕ) : sProp 𝕄 :=
  iprop((bigSep Finset.univ fun ck : Dev nD × CK => (cellInv ER (sched m) (K ck) (kcell ck) : sProp 𝕄))
    ∗ (bigSep Finset.univ fun ck : Dev nD × CK => (reached ER (kcell ck) 0 : sProp 𝕄))
    ∗ (levAts L lv : sProp 𝕄))

instance recs_persistent (K : Dev nD × CK → ℕ) : BI.Persistent (recs (F := F) m K) := by unfold recs; infer_instance

theorem inv_of (K : Dev nD × CK → ℕ) (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
omit [FloatOps F] in
theorem reached_of (ck : Dev nD × CK) :
    (bigSep Finset.univ fun ck : Dev nD × CK => (reached ER (kcell ck) 0 : sProp 𝕄)) ⊢ reached ER (kcell ck) 0 :=
  bigSep_elim (Finset.mem_univ ck)

theorem recs_inv (K : Dev nD × CK → ℕ) (ck : Dev nD × CK) : recs (F := F) m K ⊢ cellInv ER (sched m) (K ck) (kcell ck) := by
  unfold recs
  iintro ⟨H, -⟩
  iapply (inv_of m K ck)
  iexact H
theorem recs_reached (K : Dev nD × CK → ℕ) (ck : Dev nD × CK) : recs (F := F) m K ⊢ reached ER (kcell ck) 0 := by
  unfold recs
  iintro ⟨-, H, -⟩
  iapply (reached_of ck)
  iexact H
theorem recs_lev (K : Dev nD × CK → ℕ) : recs (F := F) m K ⊢ (levAts L lv : sProp 𝕄) := by
  unfold recs
  iintro ⟨-, -, H⟩
  iexact H

end Cert.PrefixSum

end
-- ==== Proof.Steps.lean ====
/-
One step of each of the kernel's four unrolled loops over the devices, at a symbolic device `c` and loop index `j`:
signal device `j`'s barrier, send the totals to device `j`, wait for device `j`'s row, wait for the transfer to device
`j` to have left. Each is under a condition on `c` and `j`; the state of a loop is one family over the devices the
condition picks, done below the loop index and still to do from it on.
-/
module

public import proofs.«01_k».proof.Proof.Protocol
public import Idealize.ShloMosaic.Lib.Pipeline.ValueKit.Geometry

@[expose] public section

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

abbrev 𝒱₀ : Variants := Variants.none

/-! ## A loop's state -/

/-- `A` at the picked devices from `k` on, `B` at those below. -/
def prog (p : Dev nD → Prop) [DecidablePred p] (k : ℕ) (A B : Dev nD → sProp 𝕄) : sProp 𝕄 :=
  bigSep (Finset.univ.filter p) fun j => if k ≤ j.val then A j else B j

section Prog
variable (p : Dev nD → Prop) [DecidablePred p]

/-- The picked devices but `j`. -/
def others (A B : Dev nD → sProp 𝕄) (j : Dev nD) : sProp 𝕄 := bigSep ((Finset.univ.filter p).erase j) fun i => if j.val ≤ i.val then A i else B i

omit [FloatOps F] in
theorem prog_take (A B : Dev nD → sProp 𝕄) {j : Dev nD} (h : p j) : prog (F := F) p j.val A B = iprop(A j ∗ others p A B j) := by
  unfold prog others
  rw [bigSep_erase (Finset.mem_filter.mpr ⟨Finset.mem_univ _, h⟩), if_pos (Nat.le_refl _)]
  rfl

omit [FloatOps F] in
theorem prog_put (A B : Dev nD → sProp 𝕄) {j : Dev nD} (h : p j) : prog (F := F) p (j.val + 1) A B = iprop(B j ∗ others p A B j) := by
  unfold prog others
  rw [bigSep_erase (Finset.mem_filter.mpr ⟨Finset.mem_univ _, h⟩), if_neg (by omega)]
  congr 1
  refine bigSep_congr fun i hi => ?_
  have hne : i.val ≠ j.val := fun e => (Finset.mem_erase.mp hi).1 (Fin.ext e)
  by_cases hle : j.val ≤ i.val
  · rw [if_pos hle, if_pos (by omega)]
  · rw [if_neg hle, if_neg (by omega)]

omit [FloatOps F] in
theorem prog_skip (A B : Dev nD → sProp 𝕄) {j : Dev nD} (h : ¬ p j) : prog (F := F) p j.val A B = prog p (j.val + 1) A B := by
  unfold prog
  refine bigSep_congr fun i hi => ?_
  have hne : i.val ≠ j.val := fun e => h ((Fin.ext e : i = j) ▸ (Finset.mem_filter.mp hi).2)
  by_cases hle : j.val ≤ i.val
  · rw [if_pos hle, if_pos (by omega)]
  · rw [if_neg hle, if_neg (by omega)]

omit [FloatOps F] in
/-- At the start everything is to do, -/
theorem prog_start (A B : Dev nD → sProp 𝕄) : prog (F := F) p 0 A B = bigSep (Finset.univ.filter p) A := by
  unfold prog
  exact bigSep_congr fun i _ => if_pos (Nat.zero_le _)
omit [FloatOps F] in
/-- at the end everything is done. -/
theorem prog_end (A B : Dev nD → sProp 𝕄) : prog (F := F) p 16 A B = bigSep (Finset.univ.filter p) B := by
  unfold prog
  exact bigSep_congr fun i _ => if_neg (Nat.not_le.mpr i.isLt)

end Prog

/-! ## The conditions, as the kernel computes them -/

/-- The device index the kernel works with. -/
abbrev meW (c : Dev nD) : BitVec 32 := Scalar.remsi (Scalar.divsi (Dev.word c) 1#32) 16#32

theorem cond_ne (c j : Dev nD) :
    Scalar.cmpi .ne (Scalar.extui (Scalar.cmpi .ne (meW c) (BitVec.ofNat 32 j.val)) : BitVec 32) 0#32 = 1#1 ↔ c ≠ j := by
  revert c j; decide
theorem cond_lt (c j : Dev nD) :
    Scalar.cmpi .ne (Scalar.extui (Scalar.cmpi .slt (meW c) (BitVec.ofNat 32 j.val)) : BitVec 32) 0#32 = 1#1 ↔ c < j := by
  revert c j; decide
theorem cond_gt (c j : Dev nD) :
    Scalar.cmpi .ne (Scalar.extui (Scalar.cmpi .sgt (meW c) (BitVec.ofNat 32 j.val)) : BitVec 32) 0#32 = 1#1 ↔ j < c := by
  revert c j; decide

/-! ## The steps -/

abbrev Kern : Type → Type _ := Prog (TpuEff nD τ sig (Elt F) Λ₀ .tc)

section Steps

variable (m : (ℓ : Loc nD τ sig) → Buf (Elt F) ℓ) (K : Dev nD × CK → ℕ)

/-- A guarded statement followed by `rest`: with the condition false the loop's state passes it unchanged. -/
theorem wp_guarded (c : Dev nD) {α : Type} {Q : α → sProp 𝕄} {cnd : BitVec 1} {P : Prop} (hc : cnd = 1#1 ↔ P) {St St' : sProp 𝕄}
    {A : cnd = 1#1 → Prog (TpuEff nD τ sig (Elt F) Λ₀ .tc) α} {rest : Prog (TpuEff nD τ sig (Elt F) Λ₀ .tc) α}
    (hskip : ¬ P → St ⊢ St')
    (hrun : ∀ h : cnd = 1#1, P → St ⊢ iprop((St' -∗ wp frame (wpE (defs₀ (F := F)) 𝒱₀ (c : Thread nD τ) none) Set.univ rest Q)
      -∗ wp frame (wpE (defs₀ (F := F)) 𝒱₀ (c : Thread nD τ) none) Set.univ (A h) Q)) :
    St ⊢ iprop((St' -∗ wp frame (wpE (defs₀ (F := F)) 𝒱₀ (c : Thread nD τ) none) Set.univ rest Q)
      -∗ wp frame (wpE (defs₀ (F := F)) 𝒱₀ (c : Thread nD τ) none) Set.univ (if h : cnd = 1#1 then A h else rest) Q) := by
  by_cases h : cnd = 1#1
  · rw [dif_pos h]; exact hrun h (hc.mp h)
  · rw [dif_neg h]
    iintro HS Hk
    ihave HS' := (hskip (fun hp => h (hc.mpr hp))) $$ HS
    iapply Hk; iexact HS'

/-! ### Signals -/

/-- The signal loop at index `k`: the tokens and payloads of the units still to give, and what is owed. -/
def sigSt (c : Dev nD) (k : ℕ) : sProp 𝕄 :=
  iprop((∃ W, owes (c : Thread nD τ) (rcvO c 0 + barO c k) W)
    ∗ prog (c ≠ ·) k (fun j => iprop(dutyTok ER (barCell j) 0 c ∗ barPay j c)) (fun _ => iprop(emp)))

omit [FloatOps F] in
theorem sig_owed (c j : Dev nD) (h : c ≠ j) :
    rcvO c 0 + barO c j.val = rcvO c 0 + barO c (j.val + 1) + tallyAt (barCell j) () (1#32).toNat := by
  unfold barO; rw [sumFrom_take (c ≠ ·) (fun j => tallyAt (barCell j) () 1) j h, add_assoc]; rfl

theorem sig_step (c j : Dev nD) {α : Type} {Q : α → sProp 𝕄} {cnd : BitVec 1} (hc : cnd = 1#1 ↔ c ≠ j)
    {dv : cnd = 1#1 → Dev nD} (hd : ∀ h, dv h = j) {rest : Prog (TpuEff nD τ sig (Elt F) Λ₀ .tc) α} :
    iprop(recs m K ∗ sigSt c j.val)
      ⊢ iprop((sigSt c (j.val + 1) -∗ wp frame (wpE (defs₀ (F := F)) 𝒱₀ (c : Thread nD τ) none) Set.univ rest Q)
        -∗ wp frame (wpE (defs₀ (F := F)) 𝒱₀ (c : Thread nD τ) none) Set.univ
          (if h : cnd = 1#1 then (semSignalWord (dv h) barS 1#32 >>= fun _ => rest) else rest) Q) := by
  refine wp_guarded c hc (St := iprop(recs m K ∗ sigSt c j.val)) (St' := sigSt c (j.val + 1)) ?_ ?_
  · intro hn
    unfold sigSt barO
    rw [prog_skip _ _ _ hn, sumFrom_skip _ _ j hn]
    iintro ⟨-, H⟩; iexact H
  · intro h hp
    rw [hd h]
    simp only [semSignalWord, Prog.bind_op, Prog.bind_ret]
    unfold sigSt
    rw [prog_take _ _ _ hp, prog_put _ _ _ hp]
    iintro ⟨#HR, ⟨⟨%W, HO⟩, ⟨Htok, Hpay⟩, Hrest⟩⟩ Hk
    ihave #HI := (recs_inv m K (j, .inl ())) $$ HR
    ihave #Hr := (recs_reached m K (j, .inl ())) $$ HR
    iapply (Rounds.wp_signal 𝒱₀ ER (sched m) (c : Thread nD τ) none (dst := (j : Thread nD τ)) (κ := K (j, .inl ()))
      (r := 0) (d := c) (mem_duties_bar m j hp) (show (1 : ℕ) = _ by decide) () (O₀ := rcvO c 0 + barO c j.val) (rcvO c 0 + barO c (j.val + 1))
      (sig_owed c j hp) (W := W)) $$ [HO Htok Hpay]
    · isplitr; · iexact HI
      isplitl [HO]; · iexact HO
      isplitl [Htok]; · iexact Htok
      isplitl [Hpay]; · rw [show (sched (F := F) m).payload (barCell j) 0 c = barPay j c from rfl]; iexact Hpay
      iexact Hr
    iintro HO
    iapply Hk
    isplitl [HO]; · iexists W; iexact HO
    isplitr; · iempintro
    iexact Hrest

/-! ### Sends -/

/-- The send loop at index `k`. -/
def sndSt (c : Dev nD) (k : ℕ) : sProp 𝕄 :=
  iprop((∃ W, owes (c : Thread nD τ) (rcvO c k) W)
    ∗ prog (c < ·) k
      (fun j => iprop(dutyTok ER (sendCell c j) 0 j ∗ dutyTok ER (recvCell j c) 0 c ∗ totPts m c (lent j) ∗ ∃ f, rowPts (F := F) j c f))
      (fun j => cred (tallyAt (sendCell c j) () N)))

/-- What device `c`'s totals leave in row `c` of a gather buffer is that row of `comB`. -/
theorem row_landed (c j : Dev nD) (f : (cc0_scratch3 : Ref sig .tc).ty.Contents (Elt F)) :
    ((rowM c).view.loc (j : Thread nD τ) ↦[(rowM c).view.set]{fullShare}
        ((rowM c).view.write (Elt F) f (totM.view.read (Elt F) (totB m c : (cc0_scratch2 : Ref sig .tc).ty.Contents (Elt F))) Finset.univ) : sProp 𝕄)
      ⊢ rowPts j c (comB m) := by
  unfold rowPts
  rw [View.read_whole]
  refine Entails.of_eq (pointsTo_congr ?_)
  intro i hi
  obtain ⟨x, -, rfl⟩ := Finset.mem_map.mp hi
  have e := View.write_emb_of_mem (v := (rowM c).view) (Val := Elt F) f (totB m c : (cc0_scratch2 : Ref sig .tc).ty.Contents (Elt F)) (M := Finset.univ) (x := x) (Finset.mem_univ x)
  refine e.trans ?_
  have h0 : ((rowM c).view.emb x) 0 = c := Fin.ext (by
    refine (ValueKit.view_emb_slice_whole_unit_val cc0_scratch3 ![c.val, 0] S1x512.size (inbRow c) x 0).trans ?_
    have := (x 0).isLt
    change (x 0).val < 1 at this
    show c.val + (x 0).val = c.val
    omega)
  have h1 : rowIx (((rowM c).view.emb x) 1) = x := by
    funext a
    refine Fin.ext ?_
    match a with
    | ⟨0, _⟩ =>
      have := (x 0).isLt
      change (x 0).val < 1 at this
      show 0 = (x 0).val
      omega
    | ⟨1, _⟩ => exact (ValueKit.view_emb_slice_whole_unit_val cc0_scratch3 ![c.val, 0] S1x512.size (inbRow c) x 1).trans (Nat.zero_add _)
  show totB m c x = totB m (((rowM c).view.emb x) 0) (rowIx (((rowM c).view.emb x) 1))
  rw [h0, h1]

/-- The transfer to device `j` pays `c`'s send cell and `j`'s receive cell. -/
theorem wp_send_row (c n : Dev nD) (j : Dev nD) (hn : n = j) (hp : c < j)
    {dst : Memref sig (Dev.tc n : Thread nD τ).2.kind .vmem S1x512 .f32} (hdst' : dst = rowM c)
    {sS sR : DmaSem sig} (hS : sS = sendS j) (hR : sR = recvS c)
    {hsc : dst.view.ref.isScScratch = false}
    {hsrc : (totM : Memref sig .tc .vmem S1x512 .f32).view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fn : (cc0_scratch3 : Ref sig .tc).ty.Contents (Elt F)) (W : Waits sig Unit) :
    iprop(cellInv ER (sched m) (K (c, .inr (.inl j))) (sendCell c j) ∗ cellInv ER (sched m) (K (j, .inr (.inr c))) (recvCell j c)
        ∗ totPts m c (lent j) ∗ rowPts j c fn
        ∗ owes (c : Thread nD τ) (rcvO c j.val) W
        ∗ dutyTok ER (sendCell c j) 0 j ∗ reached ER (sendCell c j) 0
        ∗ dutyTok ER (recvCell j c) 0 c ∗ reached ER (recvCell j c) 0)
      ⊢ iprop(((cred (tallyAt (sendCell c j) () N) ∗ owes (c : Thread nD τ) (rcvO c (j.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma totM (.remote (Dev.tc n : Thread nD τ) dst (.dma sS) hsc) (.dma sR) hsrc hdst hsem) k) Q) := by
  subst hn hdst' hS hR
  unfold totPts rowPts
  have hd₁ : n ∈ (sched (F := F) m).duties (sendCell c n) 0 := by rw [duties_send, if_pos hp]; exact Finset.mem_singleton_self _
  have hd₂ : c ∈ (sched (F := F) m).duties (recvCell n c) 0 := by rw [duties_recv, if_pos hp]; exact Finset.mem_singleton_self _
  have hN : (rowM c).view.amount (.dma (recvS c)) = N := rowM_credit c
  have ha₁ : (sched (F := F) m).amount (sendCell c n) 0 n = N := rfl
  have ha₂ : (sched (F := F) m).amount (recvCell n c) 0 c = N := rfl
  have hO : rcvO c n.val = rcvO c (n.val + 1) + tallyAt (recvCell n c) () N := by
    unfold rcvO; exact sumFrom_take (c < ·) (fun j => tallyAt (recvCell j c) () N) n hp
  exact Rounds.wp_send_pointsTo 𝒱₀ ER (sched m) (c : Thread nD τ) none (κ₁ := K (c, .inr (.inl n))) (κ₂ := K (n, .inr (.inr c)))
    (r₁ := 0) (r₂ := 0) (d₁ := n) (d₂ := c) (fd := fn) hd₁ hd₂
    () () N hN ha₁ ha₂ (O₀ := rcvO c n.val) (rcvO c (n.val + 1)) hO (W := W)
    (by rw [payload_send]; exact BI.Entails.refl _)
    (by rw [payload_recv]; exact row_landed m c n fn)

theorem snd_step (c j : Dev nD) {α : Type} {Q : α → sProp 𝕄} {cnd : BitVec 1} (hc : cnd = 1#1 ↔ c < j)
    {dv : cnd = 1#1 → Dev nD} (hd : ∀ h, dv h = j)
    {dst : cnd = 1#1 → Memref sig .tc .vmem S1x512 .f32} (hdst' : ∀ h, dst h = rowM c)
    {sS sR : cnd = 1#1 → DmaSem sig} (hS : ∀ h, sS h = sendS j) (hR : ∀ h, sR h = recvS c)
    {hsc : ∀ h, (dst h).view.ref.isScScratch = false}
    {hsrc : ∀ h : cnd = 1#1, (totM : Memref sig .tc .vmem S1x512 .f32).view.WordExact} {hdst : ∀ h, (dst h).view.WordExact}
    {hsem : ∀ h, DmaTarget.Typed .vmem (.dma (sR h)) (.remote (Dev.tc (dv h) : Thread nD τ) (dst h) (.dma (sS h)) (hsc h))}
    {rest : Prog (TpuEff nD τ sig (Elt F) Λ₀ .tc) α} :
    iprop(recs m K ∗ sndSt m c j.val)
      ⊢ iprop((sndSt m c (j.val + 1) -∗ wp frame (wpE (defs₀ (F := F)) 𝒱₀ (c : Thread nD τ) none) Set.univ rest Q)
        -∗ wp frame (wpE (defs₀ (F := F)) 𝒱₀ (c : Thread nD τ) none) Set.univ
          (if h : cnd = 1#1 then
            (Prog.lift (.enqueueDma totM (.remote (Dev.tc (dv h) : Thread nD τ) (dst h) (.dma (sS h)) (hsc h)) (.dma (sR h)) (hsrc h) (hdst h) (hsem h))
              >>= fun _ => rest) else rest) Q) := by
  refine wp_guarded c hc (St := iprop(recs m K ∗ sndSt m c j.val)) (St' := sndSt m c (j.val + 1)) ?_ ?_
  · intro hn
    unfold sndSt rcvO
    rw [prog_skip _ _ _ hn, sumFrom_skip _ _ j hn]
    iintro ⟨-, H⟩; iexact H
  · intro h hp
    simp only [Prog.lift, Prog.bind_op, Prog.bind_ret]
    unfold sndSt
    rw [prog_take _ _ _ hp, prog_put _ _ _ hp]
    iintro ⟨#HR, ⟨⟨%W, HO⟩, ⟨HtS, HtR, Htot, ⟨%fn, Hrow⟩⟩, Hrest⟩⟩ Hk
    ihave #HI := (recs_inv m K (c, .inr (.inl j))) $$ HR
    ihave #Hr := (recs_reached m K (c, .inr (.inl j))) $$ HR
    ihave #HI' := (recs_inv m K (j, .inr (.inr c))) $$ HR
    ihave #Hr' := (recs_reached m K (j, .inr (.inr c))) $$ HR
    iapply (wp_send_row m K c (dv h) j (hd h) hp (hdst' h) (hS h) (hR h) fn W) $$ [HO HtS HtR Htot Hrow]
    · isplitr; · iexact HI
      isplitr; · iexact HI'
      isplitl [Htot]; · iexact Htot
      isplitl [Hrow]; · iexact Hrow
      isplitl [HO]; · iexact HO
      isplitl [HtS]; · iexact HtS
      isplitr; · iexact Hr
      isplitl [HtR]; · iexact HtR
      iexact Hr'
    iintro ⟨Hc, HO⟩
    iapply Hk
    isplitl [HO]; · iexists W; iexact HO
    isplitl [Hc]; · iexact Hc
    iexact Hrest

/-! ### Waits for the rows -/

/-- The receive-wait loop at index `k`. -/
def rcvSt (c : Dev nD) (k : ℕ) : sProp 𝕄 :=
  iprop((∃ W, owes (c : Thread nD τ) 0 W)
    ∗ prog (· < c) k
      (fun j => iprop(cred (tallyAt (recvCell c j) () N) ∗ atPos ER (recvCell c j) 0 ∅ 0))
      (fun j => iprop(atPos ER (recvCell c j) 1 ∅ 0 ∗ rowPts c j (comB m))))

theorem rcv_step (c j : Dev nD) {α : Type} {Q : α → sProp 𝕄} {cnd : BitVec 1} (hc : cnd = 1#1 ↔ j < c)
    {sR : cnd = 1#1 → DmaSem sig} (hR : ∀ h, sR h = recvS j)
    {sp₁ sp₂ : Space} {src : cnd = 1#1 → Memref sig .tc sp₁ S1x512 .f32} {dst : cnd = 1#1 → Memref sig .tc sp₂ S1x512 .f32}
    {hw₁ : ∀ h, (src h).view.WordExact} {hw₂ : ∀ h, (dst h).view.WordExact}
    (hN : ∀ h, (dst h).view.dmaCredit = N)
    {rest : Prog (TpuEff nD τ sig (Elt F) Λ₀ .tc) α} :
    iprop(recs m K ∗ rcvSt m c j.val)
      ⊢ iprop((rcvSt m c (j.val + 1) -∗ wp frame (wpE (defs₀ (F := F)) 𝒱₀ (c : Thread nD τ) none) Set.univ rest Q)
        -∗ wp frame (wpE (defs₀ (F := F)) 𝒱₀ (c : Thread nD τ) none) Set.univ
          (if h : cnd = 1#1 then (Prog.lift (.waitDma2 (sR h) (src h) (dst h) (hw₁ h) (hw₂ h)) >>= fun _ => rest) else rest) Q) := by
  refine wp_guarded c hc (St := iprop(recs m K ∗ rcvSt m c j.val)) (St' := rcvSt m c (j.val + 1)) ?_ ?_
  · intro hn
    unfold rcvSt
    rw [prog_skip (· < c) _ _ hn]
    iintro ⟨-, H⟩; iexact H
  · intro h hp
    rw [hR h]
    simp only [Prog.lift, Prog.bind_op, Prog.bind_ret]
    unfold rcvSt
    rw [prog_take (· < c) _ _ hp, prog_put (· < c) _ _ hp]
    iintro ⟨#HR, ⟨⟨%W, HO⟩, ⟨Hc, Hat⟩, Hrest⟩⟩ Hk
    ihave #HI := (recs_inv m K (c, .inr (.inr j))) $$ HR
    iapply (Rounds.wp_wait_rest_token 𝒱₀ ER (sched m) (c : Thread nD τ) none (κ := K (c, .inr (.inr j)))
      (wpE_waitDma2_eq 𝒱₀ (c : Thread nD τ) none Set.univ) (Set.mem_univ _) () (O := 0) (W := W) (k' := (dst h).view.dmaCredit) (R := 0) (m := 0) (T := ∅)
      (((Nat.zero_add _).trans (hN h)).trans (expect_recv m c hp).symm)) $$ [Hc HO Hat]
    · isplitr; · iexact HI
      isplitl [Hc]; · rw [show (dst h).view.dmaCredit = N from hN h]; iexact Hc
      isplitl [HO]; · iexact HO
      isplitr; · rw [MayWait_zero]; iempintro
      iexact Hat
    iintro ⟨HO, Hat, -, Hpay⟩
    ihave Hrow := (Entails.of_eq (rest_recv m c hp)) $$ Hpay
    iapply Hk
    isplitl [HO]; · iexists _; iexact HO
    isplitl [Hat Hrow]
    · isplitl [Hat]; · iexact Hat
      iexact Hrow
    iexact Hrest

/-! ### Waits for the sends -/

/-- The send-wait loop at index `k`. -/
def ackSt (c : Dev nD) (k : ℕ) : sProp 𝕄 :=
  iprop((∃ W, owes (c : Thread nD τ) 0 W)
    ∗ prog (c < ·) k
      (fun j => iprop(cred (tallyAt (sendCell c j) () N) ∗ atPos ER (sendCell c j) 0 ∅ 0))
      (fun j => iprop(atPos ER (sendCell c j) 1 ∅ 0 ∗ totPts m c (lent j))))

theorem ack_step (c j : Dev nD) {α : Type} {Q : α → sProp 𝕄} {cnd : BitVec 1} (hc : cnd = 1#1 ↔ c < j)
    {sS : cnd = 1#1 → DmaSem sig} (hS : ∀ h, sS h = sendS j)
    {sp₁ sp₂ : Space} {src : cnd = 1#1 → Memref sig .tc sp₁ S1x512 .f32} {dst : cnd = 1#1 → Memref sig .tc sp₂ S1x512 .f32}
    {hw₁ : ∀ h, (src h).view.WordExact} {hw₂ : ∀ h, (dst h).view.WordExact}
    (hN : ∀ h, (dst h).view.dmaCredit = N)
    {rest : Prog (TpuEff nD τ sig (Elt F) Λ₀ .tc) α} :
    iprop(recs m K ∗ ackSt m c j.val)
      ⊢ iprop((ackSt m c (j.val + 1) -∗ wp frame (wpE (defs₀ (F := F)) 𝒱₀ (c : Thread nD τ) none) Set.univ rest Q)
        -∗ wp frame (wpE (defs₀ (F := F)) 𝒱₀ (c : Thread nD τ) none) Set.univ
          (if h : cnd = 1#1 then (Prog.lift (.waitDma2 (sS h) (src h) (dst h) (hw₁ h) (hw₂ h)) >>= fun _ => rest) else rest) Q) := by
  refine wp_guarded c hc (St := iprop(recs m K ∗ ackSt m c j.val)) (St' := ackSt m c (j.val + 1)) ?_ ?_
  · intro hn
    unfold ackSt
    rw [prog_skip (c < ·) _ _ hn]
    iintro ⟨-, H⟩; iexact H
  · intro h hp
    rw [hS h]
    simp only [Prog.lift, Prog.bind_op, Prog.bind_ret]
    unfold ackSt
    rw [prog_take (c < ·) _ _ hp, prog_put (c < ·) _ _ hp]
    iintro ⟨#HR, ⟨⟨%W, HO⟩, ⟨Hc, Hat⟩, Hrest⟩⟩ Hk
    ihave #HI := (recs_inv m K (c, .inr (.inl j))) $$ HR
    iapply (Rounds.wp_wait_rest_token 𝒱₀ ER (sched m) (c : Thread nD τ) none (κ := K (c, .inr (.inl j)))
      (wpE_waitDma2_eq 𝒱₀ (c : Thread nD τ) none Set.univ) (Set.mem_univ _) () (O := 0) (W := W) (k' := (dst h).view.dmaCredit) (R := 0) (m := 0) (T := ∅)
      (((Nat.zero_add _).trans (hN h)).trans (expect_send m c hp).symm)) $$ [Hc HO Hat]
    · isplitr; · iexact HI
      isplitl [Hc]; · rw [show (dst h).view.dmaCredit = N from hN h]; iexact Hc
      isplitl [HO]; · iexact HO
      isplitr; · rw [MayWait_zero]; iempintro
      iexact Hat
    iintro ⟨HO, Hat, -, Hpay⟩
    ihave Htot := (Entails.of_eq (rest_send m c hp)) $$ Hpay
    iapply Hk
    isplitl [HO]; · iexists _; iexact HO
    isplitl [Hat Htot]
    · isplitl [Hat]; · iexact Hat
      iexact Htot
    iexact Hrest

end Steps

end Cert.PrefixSum

end
-- ==== Proof.Local.lean ====
/-
The kernel's unconditional steps on its own buffers, at a symbolic device `c`: the copy of the argument's block in, the
loads, the store of the column totals, and the wait on the barrier. With the rules for chaining steps: the records are
kept throughout, a step takes the first of the held assertions, what remains is passed along.
-/
module

public import proofs.«01_k».proof.Proof.Steps

@[expose] public section

set_option maxRecDepth 8000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-- The weakest precondition of a piece of the kernel's code on device `c`. -/
abbrev wpk (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × CK → ℕ)

/-! ## Chaining -/

/-- A step's rule used with the records and whatever else is held kept aside. -/
theorem next {S S' R W W' : sProp 𝕄} (h : iprop(recs m K ∗ S) ⊢ iprop((S' -∗ W) -∗ W')) (hr : iprop(recs m K ∗ S' ∗ R) ⊢ W) :
    iprop(recs m K ∗ S ∗ R) ⊢ W' := by
  iintro ⟨#HR, HS, H⟩
  iapply h $$ [HS]
  · isplitr; · iexact HR
    iexact HS
  iintro HS
  iapply hr
  isplitr; · iexact HR
  isplitl [HS] <;> iassumption

/-- The held assertions rearranged. -/
theorem convert {A B W : sProp 𝕄} (h : A ⊢ B) (hr : iprop(recs m K ∗ B) ⊢ W) : iprop(recs m K ∗ A) ⊢ W := by
  iintro ⟨#HR, HA⟩
  iapply hr
  isplitr; · iexact HR
  iapply h; iexact HA

omit [FloatOps F] in
theorem swap_held {A B C : sProp 𝕄} : iprop(A ∗ B ∗ C) ⊢ iprop(B ∗ A ∗ C) := by
  iintro ⟨HA, HB, HC⟩
  isplitl [HB]; · iexact HB
  isplitl [HA] <;> iassumption
omit [FloatOps F] in
theorem pair_held {A B C : sProp 𝕄} : iprop(A ∗ B ∗ C) ⊢ iprop((A ∗ B) ∗ C) := by
  iintro ⟨HA, HB, HC⟩
  isplitr [HC]; · isplitl [HA] <;> iassumption
  iexact HC
omit [FloatOps F] in
theorem unpair_held {A B C : sProp 𝕄} : iprop((A ∗ B) ∗ C) ⊢ iprop(A ∗ B ∗ C) := by
  iintro ⟨⟨HA, HB⟩, HC⟩
  isplitl [HA]; · iexact HA
  isplitl [HB] <;> iassumption

/-- At a part's end. -/
theorem done {α : Type} (c : Dev nD) {A : sProp 𝕄} {a : α} {Q : α → sProp 𝕄} (h : A ⊢ Q a) :
    A ⊢ wpk c (pure a : Prog (TpuEff nD τ sig (Elt F) Λ₀ .tc) α) Q := by
  rw [Prog.pure_eq_ret]
  unfold wpk
  rw [wp_ret]
  iintro H
  imodintro
  iapply h; iexact H

/-! ## The argument's block copied in -/

/-- Device `c`'s block of the argument, and its staged copy, held whole. -/
def xPts (c : Dev nD) : sProp 𝕄 := ((c : Thread nD τ).loc main_arg0) ↦{fullShare} m ((c : Thread nD τ).loc main_arg0)
def xvPts (c : Dev nD) (f : Vec F S1024x512 .f32) : sProp 𝕄 := ((c : Thread nD τ).loc cc0_scratch0) ↦{fullShare} (f : (cc0_scratch0 : Ref sig .tc).ty.Contents (Elt F))
abbrev inCell (c : Dev nD) : GSem nD τ sig := ((c : Thread nD τ), .dma inS)
def owing (c : Dev nD) (O : CellTallies nD τ sig Unit) : sProp 𝕄 := iprop(∃ W, owes (c : Thread nD τ) O W)

/-- Before the copy; -/
def inSt (c : Dev nD) : sProp 𝕄 := iprop(xPts m c ∗ (∃ f, xvPts c f) ∗ semVal (inCell c) 0)
/-- under way; -/
def inFl (c : Dev nD) : sProp 𝕄 :=
  Flight (countersEmb (U := UU)) (c : Thread nD τ) (.dma inS) () xvM.view.dmaCredit iprop(xvPts c (xB m c) ∗ xPts m c)
/-- done. -/
def inDone (c : Dev nD) : sProp 𝕄 := iprop(xPts m c ∗ xvPts c (xB m c) ∗ semVal (inCell c) 0)

theorem in_start (c : Dev nD) {α : Type} {Q : α → sProp 𝕄} {h1 : (xM : Memref sig .tc .hbm S1024x512 .f32).view.WordExact} {h2 : (xvM : Memref sig .tc .vmem S1024x512 .f32).view.WordExact}
    {h3}
    {rest : Prog (TpuEff nD τ sig (Elt F) Λ₀ .tc) α} :
    iprop(recs m K ∗ inSt m c)
      ⊢ iprop((inFl m c -∗ wpk c rest Q)
        -∗ wpk c (Prog.lift (.enqueueDma xM (.here xvM) (.dma inS) h1 h2 h3) >>= fun _ => rest) Q) := by
  simp only [Prog.lift, Prog.bind_op, Prog.bind_ret, wpk]
  unfold inSt inFl xPts xvPts
  iintro ⟨-, Hx, ⟨%f, Hv⟩, Hs⟩ Hk
  iapply (wp_dmaLocal (countersEmb (U := UU)) 𝒱₀ (c : Thread nD τ) none (q := fullShare) (fs := m ((c : Thread nD τ).loc main_arg0)) (Sd := Finset.univ) (fd := f)
    () (xvM : Memref sig .tc .vmem S1024x512 .f32).view.dmaCredit rfl (View.dmaCredit_pos _ (by decide)) (Finset.subset_univ _)) $$ [Hx Hv Hs]
  · isplitl [Hx]; · rw [View.set_whole]; iexact Hx
    isplitl [Hv]; · iexact Hv
    iexact Hs
  rw [View.read_whole, View.write_whole_univ, View.set_whole]
  iintro HF
  iapply Hk
  iexact HF

theorem mayWait_in (c : Dev nD) : (levAts L lv : sProp 𝕄) ⊢ MayWait (c : Thread nD τ) (.dma inS) () (rcvO c 0) :=
  mayWait_low (F := F) c (.dma inS) (by
    show (if 16 ≤ (inS : DmaSem sig).val ∧ (inS : DmaSem sig).val < 32 then 2 else 0) < 2
    rw [inS_val]; decide) 0
theorem mayWait_bar (c : Dev nD) : (levAts L lv : sProp 𝕄) ⊢ MayWait (c : Thread nD τ) (.reg barS) () (rcvO c 0) :=
  mayWait_low (F := F) c (.reg barS) Nat.one_lt_two 0

theorem in_wait (c : Dev nD) {α : Type} {Q : α → sProp 𝕄} {h1 : (xM : Memref sig .tc .hbm S1024x512 .f32).view.WordExact} {h2 : (xvM : Memref sig .tc .vmem S1024x512 .f32).view.WordExact}
    {rest : Prog (TpuEff nD τ sig (Elt F) Λ₀ .tc) α} :
    iprop(recs m K ∗ inFl m c ∗ owing c (rcvO c 0))
      ⊢ iprop(((inDone m c ∗ owing c (rcvO c 0)) -∗ wpk c rest Q)
        -∗ wpk c (Prog.lift (.waitDma2 inS xM xvM h1 h2) >>= fun _ => rest) Q) := by
  simp only [Prog.lift, Prog.bind_op, Prog.bind_ret, wpk]
  unfold inFl inDone owing
  iintro ⟨#HR, HF, ⟨%W, HO⟩⟩ Hk
  ihave #HL := (recs_lev m K) $$ HR
  iapply (wp_waitLocalO (countersEmb (U := UU)) 𝒱₀ (c : Thread nD τ) none () (N := xvM.view.dmaCredit) rfl) $$ [HF HO]
  · isplitl [HF]; · iexact HF
    isplitl [HO]; · iexact HO
    iapply (mayWait_in (F := F) c); iexact HL
  iintro ⟨⟨Hv, Hx⟩, Hs, HO⟩
  iapply Hk
  isplitr [HO]
  · isplitl [Hx]; · iexact Hx
    isplitl [Hv] <;> iassumption
  iexists _; iexact HO

theorem x_load (c : Dev nD) {α : Type} {Q : α → sProp 𝕄} {inb} {hl}
    {rest : Vec F S1024x512 .f32 → Prog (TpuEff nD τ sig (Elt F) Λ₀ .tc) α} :
    iprop(recs m K ∗ inDone m c)
      ⊢ iprop((inDone m c -∗ wpk c (rest (xB m c)) Q)
        -∗ wpk c (Prog.lift (.load xvM (Rect.unit (s := S1024x512) ![0, 0] S1024x512.size inb).toLoadRect hl) >>= rest) Q) := by
  simp only [Prog.lift, Prog.bind_op, Prog.bind_ret, wpk]
  unfold inDone xvPts
  iintro ⟨-, Hx, Hv, Hs⟩ Hk
  iapply (wp_load 𝒱₀ (c : Thread nD τ) none Set.univ (m := xvM) (Finset.subset_univ _)) $$ Hv
  iintro Hv
  rw [show xvM.view.readAt (Elt F) (Rect.unit (s := S1024x512) ![0, 0] S1024x512.size inb).toLoadRect (xB m c) = xB m c from
    Memref.readAt_unit_zero (Elt F) cc0_scratch0 (by funext a; revert a; decide) inb _]
  iapply Hk
  isplitl [Hx]; · iexact Hx
  isplitl [Hv] <;> iassumption

/-! ## The totals' buffer -/

def totAny (c : Dev nD) : sProp 𝕄 := iprop(∃ f : (cc0_scratch2 : Ref sig .tc).ty.Contents (Elt F), ((c : Thread nD τ).loc cc0_scratch2) ↦{fullShare} f)

theorem tot_load (c : Dev nD) {α : Type} {Q : α → sProp 𝕄} {r : LoadRect S1x512} {hl}
    {rest : Prog (TpuEff nD τ sig (Elt F) Λ₀ .tc) α} :
    iprop(recs m K ∗ totAny c)
      ⊢ iprop((totAny (F := F) c -∗ wpk c rest Q)
        -∗ wpk c (Prog.lift (.load totM r hl) >>= fun _ => rest) Q) := by
  simp only [Prog.lift, Prog.bind_op, Prog.bind_ret, wpk]
  unfold totAny
  iintro ⟨-, %f, Hv⟩ Hk
  iapply (wp_load 𝒱₀ (c : Thread nD τ) none Set.univ (m := totM) (Finset.subset_univ _)) $$ Hv
  iintro Hv
  iapply Hk
  iexists f; iexact Hv

theorem tot_store (c : Dev nD) {α : Type} {Q : α → sProp 𝕄} {inb} {hx} {hm}
    {rest : Prog (TpuEff nD τ sig (Elt F) Λ₀ .tc) α} :
    iprop(recs m K ∗ totAny c)
      ⊢ iprop((totPts m c fullShare -∗ wpk c rest Q)
        -∗ wpk c (Prog.lift (.store totM (Rect.unit (s := S1x512) ![0, 0] S1x512.size inb) (k0_pay3 (k0_pay2 (xB m c))) Finset.univ hx hm) >>= fun _ => rest) Q) := by
  simp only [Prog.lift, Prog.bind_op, Prog.bind_ret, wpk]
  unfold totAny totPts
  iintro ⟨-, %f, Hv⟩ Hk
  iapply (wp_store 𝒱₀ (c : Thread nD τ) none Set.univ (m := totM) (r := Rect.unit (s := S1x512) ![0, 0] S1x512.size inb) (Mk := Finset.univ) (Finset.subset_univ _)) $$ Hv
  iintro Hv
  rw [show (totM.access (Rect.unit (s := S1x512) ![0, 0] S1x512.size inb)).write (Elt F) f (k0_pay3 (k0_pay2 (xB m c))) Finset.univ = totB m c from
    Memref.write_access_unit_zero_univ (Elt F) cc0_scratch2 (by funext a; revert a; decide) inb _ _, View.set_whole]
  iapply Hk
  iexact Hv

/-! ## The barrier -/

/-- Before the wait on the barrier, -/
def barSt (c : Dev nD) : sProp 𝕄 :=
  iprop(owing c (rcvO c 0) ∗ cred (tallyAt (barCell c) () 15) ∗ atPos ER (barCell c) 0 ∅ 0)
/-- and after it. -/
def barDone (c : Dev nD) : sProp 𝕄 :=
  iprop(owing c (rcvO c 0) ∗ atPos ER (barCell c) 1 ∅ 0 ∗ bigSep (Finset.univ.filter (fun d => d ≠ c)) fun d => barPay (F := F) c d)

theorem bar_wait (c : Dev nD) {α : Type} {Q : α → sProp 𝕄} {rest : Prog (TpuEff nD τ sig (Elt F) Λ₀ .tc) α} :
    iprop(recs m K ∗ barSt c) ⊢ iprop((barDone c -∗ wpk c rest Q) -∗ wpk c (semWaitWord barS 15#32 >>= fun _ => rest) Q) := by
  simp only [semWaitWord, Prog.lift, Prog.bind_op, Prog.bind_ret, wpk]
  unfold barSt barDone owing
  iintro ⟨#HR, ⟨%W, HO⟩, Hc, Hat⟩ Hk
  ihave #HI := (recs_inv m K (c, .inl ())) $$ HR
  ihave #HL := (recs_lev m K) $$ HR
  iapply (Rounds.wp_wait_rest_token 𝒱₀ ER (sched m) (c : Thread nD τ) none (κ := K (c, .inl ()))
    (wpE_semWait_eq 𝒱₀ (c : Thread nD τ) none Set.univ) (Set.mem_univ _) () (O := rcvO c 0) (W := W) (k' := 15) (R := 0) (m := 0) (T := ∅)
    (show 0 + 15 = (sched (F := F) m).expect (barCell c) 0 by rw [expect_bar])) $$ [Hc HO Hat]
  · isplitr; · iexact HI
    isplitl [Hc]; · iexact Hc
    isplitl [HO]; · iexact HO
    isplitr; · iapply (mayWait_bar (F := F) c); iexact HL
    iexact Hat
  iintro ⟨HO, Hat, -, Hpay⟩
  ihave Hp := (Entails.of_eq (rest_bar m c)) $$ Hpay
  iapply Hk
  isplitl [HO]; · iexists _; iexact HO
  isplitl [Hat] <;> iassumption

end Cert.PrefixSum

end
-- ==== Proof.Blocks.lean ====
/-
The output, block by block: the kernel writes each of the eight blocks of 128 rows to its staging buffer, starts that
block's copy to the output array on the block's own semaphore, and waits for all eight copies at the end.
-/
module

public import proofs.«01_k».proof.Proof.Local

@[expose] public section

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## The blocks -/

theorem inbBlk (g : Fin 8) : ∀ a, (![128 * g.val, 0] : Fin 2 → Nat) a + S128x512.size a ≤ S1024x512.size a := by
  revert g; decide
/-- Block `g`'s rows, as a rectangle. -/
abbrev blkRect (g : Fin 8) : Rect S1024x512 := Rect.unit (s := S1024x512) ![128 * g.val, 0] S128x512.size (inbBlk g)
abbrev stB (g : Fin 8) : Memref sig .tc .vmem S128x512 .f32 := stM.slice (blkRect g) (fun _ => rfl)
abbrev oB (g : Fin 8) : Memref sig .tc .hbm S128x512 .f32 := oM.slice (blkRect g) (fun _ => rfl)
abbrev blkSet (g : Fin 8) : Finset S1024x512.Idx := (blkRect g).set

theorem mem_blk (g : Fin 8) (i : S1024x512.Idx) : i ∈ blkSet g ↔ (i 0).val / 128 = g.val := by
  unfold blkSet blkRect
  rw [Rect.mem_set_unit]
  constructor
  · intro h
    have h0 := h 0
    change 128 * g.val ≤ (i 0).val ∧ (i 0).val < 128 * g.val + 128 at h0
    omega
  · intro h a
    refine Fin.cases ?_ (fun a => ?_) a
    · show 128 * g.val ≤ (i 0).val ∧ (i 0).val < 128 * g.val + 128
      omega
    · have h1 : a = 0 := Subsingleton.elim _ _
      subst h1
      show 0 ≤ (i 1).val ∧ (i 1).val < 0 + 512
      have := (i 1).isLt
      change (i 1).val < 512 at this
      omega
theorem blk_disjoint (g g' : Fin 8) (h : g ≠ g') : Disjoint (blkSet g) (blkSet g') := by
  rw [Finset.disjoint_left]
  intro i hi hi'
  exact h (Fin.ext (((mem_blk g i).mp hi).symm.trans ((mem_blk g' i).mp hi')))
theorem blk_cover : Finset.univ.biUnion blkSet = Finset.univ := by
  ext i
  simp only [Finset.mem_biUnion, Finset.mem_univ, true_and, iff_true]
  refine ⟨⟨(i 0).val / 128, ?_⟩, (mem_blk _ i).mpr rfl⟩
  have := (i 0).isLt
  change (i 0).val < 1024 at this
  omega

theorem stB_set (g : Fin 8) : (stB g).view.set = blkSet g := View.set_slice_whole cc0_scratch1 (blkRect g)
theorem oB_set (g : Fin 8) : (oB g).view.set = blkSet g := View.set_slice_whole main_v1 (blkRect g)

/-! ## Contents -/

variable (m : (ℓ : Loc nD τ sig) → Buf (Elt F) ℓ) (K : Dev nD × CK → ℕ)

/-- The running sums of block `g` of device `c`, as the kernel computes them. -/
def cumB (c : Dev nD) : Fin 8 → FVec F S128x512 .f32
  | ⟨0, _⟩ => k0_pay6 k0_pay1 (k0_pay4 (xB m c)) k0_pay5
  | ⟨1, _⟩ => k0_pay7 k0_pay1 (k0_pay4 (xB m c)) k0_pay5
  | ⟨2, _⟩ => k0_pay8 k0_pay1 (k0_pay4 (xB m c)) k0_pay5
  | ⟨3, _⟩ => k0_pay9 k0_pay1 (k0_pay4 (xB m c)) k0_pay5
  | ⟨4, _⟩ => k0_pay10 k0_pay1 (k0_pay4 (xB m c)) k0_pay5
  | ⟨5, _⟩ => k0_pay11 k0_pay1 (k0_pay4 (xB m c)) k0_pay5
  | ⟨6, _⟩ => k0_pay12 k0_pay1 (k0_pay4 (xB m c)) k0_pay5
  | ⟨_, _⟩ => k0_pay13 k0_pay1 (k0_pay4 (xB m c)) k0_pay5
/-- The totals of all devices before `c`. -/
def accB (c : Dev nD) : FVec F S1x512 .f32 := k0_pay15 (k0_pay14 (meW c)) (comB m)
/-- Block `g` of device `c`'s result. -/
def outBlk (c : Dev nD) (g : Fin 8) : FVec F S128x512 .f32 := k0_pay19 (cumB m c g) (accB m c)
/-- An index of a block. -/
def blkIx (r : Fin 128) (k : Fin 512) : S128x512.Idx
  | ⟨0, _⟩ => r
  | ⟨1, _⟩ => k
/-- Device `c`'s whole result. -/
def outF (c : Dev nD) : Vec F S1024x512 .f32 := fun i =>
  outBlk m c ⟨(i 0).val / 128, by have := (i 0).isLt; change (i 0).val < 1024 at this; omega⟩
    (blkIx ⟨(i 0).val % 128, Nat.mod_lt _ (by decide)⟩ (i 1))

/-- On block `g` the result is block `g`. -/
theorem outF_blk (c : Dev nD) (g : Fin 8) (i : S1024x512.Idx) (x : S128x512.Idx)
    (h0 : (i 0).val = 128 * g.val + (x 0).val) (h1 : (i 1).val = (x 1).val) : outF m c i = outBlk m c g x := by
  have hx := (x 0).isLt
  change (x 0).val < 128 at hx
  unfold outF
  have e : (⟨(i 0).val / 128, by have := (i 0).isLt; change (i 0).val < 1024 at this; omega⟩ : Fin 8) = g := Fin.ext (by show (i 0).val / 128 = g.val; omega)
  have e' : blkIx ⟨(i 0).val % 128, Nat.mod_lt _ (by decide)⟩ (i 1) = x := by
    funext a
    refine Fin.ext ?_
    match a with
    | ⟨0, _⟩ => show (i 0).val % 128 = (x 0).val; omega
    | ⟨1, _⟩ => exact h1
  rw [e, e']

abbrev outCell (c : Dev nD) (g : Fin 8) : GSem nD τ sig := ((c : Thread nD τ), .dma (outS g))
/-- Block `g` of the staging buffer, and of the output array, held. -/
def stPts (c : Dev nD) (g : Fin 8) (f : (cc0_scratch1 : Ref sig .tc).ty.Contents (Elt F)) : sProp 𝕄 :=
  ((c : Thread nD τ).loc cc0_scratch1) ↦[blkSet g]{fullShare} f
def oPts (c : Dev nD) (g : Fin 8) (f : (main_v1 : Ref sig .tc).ty.Contents (Elt F)) : sProp 𝕄 :=
  ((c : Thread nD τ).loc main_v1) ↦[blkSet g]{fullShare} f

theorem st_stored (c : Dev nD) (g : Fin 8) (f : (cc0_scratch1 : Ref sig .tc).ty.Contents (Elt F)) :
    (((c : Thread nD τ).loc cc0_scratch1) ↦[blkSet g]{fullShare}
      ((stM.access (blkRect g)).write (Elt F) f (outBlk m c g) Finset.univ) : sProp 𝕄) ⊢ stPts c g (outF m c) := by
  unfold stPts
  refine Entails.of_eq (pointsTo_congr ?_)
  intro i hi
  rw [← stB_set g] at hi
  obtain ⟨x, -, rfl⟩ := Finset.mem_map.mp hi
  refine (View.write_emb_of_mem (v := stM.access (blkRect g)) (Val := Elt F) f (outBlk m c g) (M := Finset.univ) (x := x) (Finset.mem_univ x)).trans ?_
  refine (outF_blk m c g _ x ?_ ?_).symm
  · exact ValueKit.view_emb_slice_whole_unit_val cc0_scratch1 ![128 * g.val, 0] S128x512.size (inbBlk g) x 0
  · exact (ValueKit.view_emb_slice_whole_unit_val cc0_scratch1 ![128 * g.val, 0] S128x512.size (inbBlk g) x 1).trans (Nat.zero_add _)

theorem o_copied (c : Dev nD) (g : Fin 8) (f : (main_v1 : Ref sig .tc).ty.Contents (Elt F)) :
    (((c : Thread nD τ).loc main_v1) ↦[blkSet g]{fullShare}
      ((oB g).view.write (Elt F) f ((stB g).view.read (Elt F) (outF m c : (cc0_scratch1 : Ref sig .tc).ty.Contents (Elt F))) Finset.univ) : sProp 𝕄) ⊢ oPts c g (outF m c) := by
  unfold oPts
  refine Entails.of_eq (pointsTo_congr ?_)
  intro i hi
  rw [← oB_set g] at hi
  obtain ⟨x, -, rfl⟩ := Finset.mem_map.mp hi
  exact View.write_emb_of_mem (v := (oB g).view) (Val := Elt F) f _ (M := Finset.univ) (x := x) (Finset.mem_univ x)

/-! ## A block's four states -/

abbrev NB : ℕ := (oB 0).view.dmaCredit
theorem oB_credit (g : Fin 8) : (oB g).view.dmaCredit = NB := rfl
theorem NB_pos : 0 < NB := View.dmaCredit_pos _ (by decide)

/-- Block `g` before its store; -/
def blk0 (c : Dev nD) (g : Fin 8) : sProp 𝕄 := iprop((∃ f, stPts c g f) ∗ (∃ f, oPts c g f) ∗ semVal (outCell c g) 0)
/-- stored; -/
def blk1 (c : Dev nD) (g : Fin 8) : sProp 𝕄 := iprop(stPts c g (outF m c) ∗ (∃ f, oPts c g f) ∗ semVal (outCell c g) 0)
/-- on its way out; -/
def blk2 (c : Dev nD) (g : Fin 8) : sProp 𝕄 :=
  iprop(∃ f : (main_v1 : Ref sig .tc).ty.Contents (Elt F), Flight (countersEmb (U := UU)) (c : Thread nD τ) (.dma (outS g)) () NB
      iprop((((c : Thread nD τ).loc main_v1) ↦[blkSet g]{fullShare}
        ((oB g).view.write (Elt F) f ((stB g).view.read (Elt F) (outF m c : (cc0_scratch1 : Ref sig .tc).ty.Contents (Elt F))) Finset.univ))
        ∗ stPts c g (outF m c)))
/-- out. -/
def blk3 (c : Dev nD) (g : Fin 8) : sProp 𝕄 := iprop(stPts c g (outF m c) ∗ oPts c g (outF m c) ∗ semVal (outCell c g) 0)
def blkAt (c : Dev nD) (g : Fin 8) : ℕ → sProp 𝕄
  | 0 => blk0 c g
  | 1 => blk1 m c g
  | 2 => blk2 m c g
  | _ => blk3 m c g
theorem blkAt_0 (c : Dev nD) (g : Fin 8) : blkAt m c g 0 = blk0 c g := rfl
theorem blkAt_1 (c : Dev nD) (g : Fin 8) : blkAt m c g 1 = blk1 m c g := rfl
theorem blkAt_2 (c : Dev nD) (g : Fin 8) : blkAt m c g 2 = blk2 m c g := rfl
theorem blkAt_3 (c : Dev nD) (g : Fin 8) : blkAt m c g 3 = blk3 m c g := rfl

/-- The state of block `g` when the blocks below `s` are stored, those below `d` are sent and those below `w` waited for. -/
def phase (s d w : ℕ) (g : Fin 8) : ℕ := (if g.val < s then 1 else 0) + (if g.val < d then 1 else 0) + (if g.val < w then 1 else 0)
def blkSt (c : Dev nD) (s d w : ℕ) : sProp 𝕄 := bigSep Finset.univ fun g => blkAt m c g (phase s d w g)
def blkOthers (c : Dev nD) (s d w : ℕ) (g : Fin 8) : sProp 𝕄 := bigSep (Finset.univ.erase g) fun i => blkAt m c i (phase s d w i)

theorem blk_take (c : Dev nD) (s d w : ℕ) (g : Fin 8) (k : ℕ) (h : phase s d w g = k) :
    blkSt m c s d w = iprop(blkAt m c g k ∗ blkOthers m c s d w g) := by
  unfold blkSt blkOthers
  rw [bigSep_erase (Finset.mem_univ g), h]
  rfl
theorem blk_put (c : Dev nD) (s d w s' d' w' : ℕ) (g : Fin 8) (k : ℕ) (h : phase s' d' w' g = k)
    (ho : ∀ i, i ≠ g → phase s' d' w' i = phase s d w i) :
    blkSt m c s' d' w' = iprop(blkAt m c g k ∗ blkOthers m c s d w g) := by
  rw [blk_take m c s' d' w' g k h]
  unfold blkOthers
  congr 1
  exact bigSep_congr fun i hi => by rw [ho i (Finset.mem_erase.mp hi).1]

/-! ## The steps -/

theorem blk_load (c : Dev nD) (g : Fin 8) {d w : ℕ} (hd : d ≤ g.val) (hw : w ≤ g.val) {α : Type} {Q : α → sProp 𝕄}
    {off : Fin 2 → ℕ} (ho : off = ![128 * g.val, 0]) {inb} {hl}
    {rest : Vec F S128x512 .f32 → Prog (TpuEff nD τ sig (Elt F) Λ₀ .tc) α} {W : sProp 𝕄} (hr : ∀ v, W ⊢ wpk c (rest v) Q) :
    iprop(recs m K ∗ blkSt m c g.val d w)
      ⊢ iprop((blkSt m c g.val d w -∗ W)
        -∗ wpk c (Prog.lift (.load stM (Rect.unit (s := S1024x512) off S128x512.size inb).toLoadRect hl) >>= rest) Q) := by
  subst ho
  simp only [Prog.lift, Prog.bind_op, Prog.bind_ret, wpk]
  have h0 : phase g.val d w g = 0 := by unfold phase; rw [if_neg (by omega), if_neg (by omega), if_neg (by omega)]
  rw [blk_take m c g.val d w g 0 h0]
  rw [blkAt_0]
  unfold blk0 stPts
  iintro ⟨-, ⟨⟨%f, Hs⟩, Ho⟩, Hrest⟩ Hk
  iapply (wp_load_rect 𝒱₀ (c : Thread nD τ) none Set.univ (m := stM) (r := Rect.unit (s := S1024x512) ![128 * g.val, 0] S128x512.size inb)
    (show _ ⊆ blkSet g from by exact (stB_set g).subset)) $$ Hs
  iintro Hs
  iapply (hr _)
  iapply Hk
  isplitr [Hrest]
  · isplitl [Hs]; · iexists f; iexact Hs
    iexact Ho
  iexact Hrest

theorem blk_store (c : Dev nD) (g : Fin 8) {d w : ℕ} (hd : d ≤ g.val) (hw : w ≤ g.val) {α : Type} {Q : α → sProp 𝕄}
    {off : Fin 2 → ℕ} (ho : off = ![128 * g.val, 0]) {v : FVec F S128x512 .f32} (hv : v = outBlk m c g) {inb} {hx} {hm}
    {rest : Prog (TpuEff nD τ sig (Elt F) Λ₀ .tc) α} :
    iprop(recs m K ∗ blkSt m c g.val d w)
      ⊢ iprop((blkSt m c (g.val + 1) d w -∗ wpk c rest Q)
        -∗ wpk c (Prog.lift (.store stM (Rect.unit (s := S1024x512) off S128x512.size inb) v Finset.univ hx hm) >>= fun _ => rest) Q) := by
  subst ho hv
  simp only [Prog.lift, Prog.bind_op, Prog.bind_ret, wpk]
  have h0 : phase g.val d w g = 0 := by unfold phase; rw [if_neg (by omega), if_neg (by omega), if_neg (by omega)]
  have h1 : phase (g.val + 1) d w g = 1 := by unfold phase; rw [if_pos (by omega), if_neg (by omega), if_neg (by omega)]
  have h2 : ∀ i, i ≠ g → phase (g.val + 1) d w i = phase g.val d w i := fun i hi => by
    have : i.val ≠ g.val := fun e => hi (Fin.ext e)
    unfold phase
    by_cases h : i.val < g.val
    · rw [if_pos h, if_pos (by omega : i.val < g.val + 1)]
    · rw [if_neg h, if_neg (by omega : ¬ i.val < g.val + 1)]
  rw [blk_take m c g.val d w g 0 h0, blk_put m c g.val d w (g.val + 1) d w g 1 h1 h2]
  rw [blkAt_0, blkAt_1]
  unfold blk0 blk1
  iintro ⟨-, ⟨⟨%f, Hs⟩, Ho⟩, Hrest⟩ Hk
  unfold stPts
  iapply (wp_store 𝒱₀ (c : Thread nD τ) none Set.univ (m := stM) (r := Rect.unit (s := S1024x512) ![128 * g.val, 0] S128x512.size inb) (Mk := Finset.univ)
    (show _ ⊆ blkSet g from by exact (stB_set g).subset)) $$ Hs
  iintro Hs
  ihave Hs := (st_stored m c g f) $$ Hs
  iapply Hk
  isplitr [Hrest]
  · isplitl [Hs]; · unfold stPts; iexact Hs
    iexact Ho
  iexact Hrest

theorem blk_send (c : Dev nD) (g : Fin 8) {s w : ℕ} (hs : g.val < s) (hw : w ≤ g.val) {α : Type} {Q : α → sProp 𝕄}
    {src : Memref sig .tc .vmem S128x512 .f32} (hsrc' : src = stB g) {dst : Memref sig .tc .hbm S128x512 .f32} (hdst' : dst = oB g)
    {sm : DmaSem sig} (hsm : sm = outS g) {h1} {h2} {h3}
    {rest : Prog (TpuEff nD τ sig (Elt F) Λ₀ .tc) α} :
    iprop(recs m K ∗ blkSt m c s g.val w)
      ⊢ iprop((blkSt m c s (g.val + 1) w -∗ wpk c rest Q)
        -∗ wpk c (Prog.lift (.enqueueDma src (.here dst) (.dma sm) h1 h2 h3) >>= fun _ => rest) Q) := by
  subst hsrc' hdst' hsm
  simp only [Prog.lift, Prog.bind_op, Prog.bind_ret, wpk]
  have h0 : phase s g.val w g = 1 := by unfold phase; rw [if_pos (by omega), if_neg (by omega), if_neg (by omega)]
  have h1 : phase s (g.val + 1) w g = 2 := by unfold phase; rw [if_pos (by omega), if_pos (by omega), if_neg (by omega)]
  have h2 : ∀ i, i ≠ g → phase s (g.val + 1) w i = phase s g.val w i := fun i hi => by
    have : i.val ≠ g.val := fun e => hi (Fin.ext e)
    unfold phase
    by_cases h : i.val < g.val
    · rw [if_pos h, if_pos (by omega : i.val < g.val + 1)]
    · rw [if_neg h, if_neg (by omega : ¬ i.val < g.val + 1)]
  rw [blk_take m c s g.val w g 1 h0, blk_put m c s g.val w s (g.val + 1) w g 2 h1 h2]
  rw [blkAt_1, blkAt_2]
  unfold blk1 blk2
  iintro ⟨-, ⟨Hs, ⟨%f, Ho⟩, Hv⟩, Hrest⟩ Hk
  unfold stPts oPts
  iapply (wp_dmaLocal (countersEmb (U := UU)) 𝒱₀ (c : Thread nD τ) none (src := stB g) (dst := oB g) (sm := .dma (outS g)) (q := fullShare) (fs := (outF m c : (cc0_scratch1 : Ref sig .tc).ty.Contents (Elt F)))
    (Sd := blkSet g) (fd := f) () NB (oB_credit g) NB_pos (oB_set g).subset) $$ [Hs Ho Hv]
  · isplitl [Hs]; · rw [stB_set]; iexact Hs
    isplitl [Ho]; · iexact Ho
    iexact Hv
  rw [stB_set]
  iintro HF
  iapply Hk
  isplitl [HF]; · iexists f; iexact HF
  iexact Hrest

theorem blk_wait (c : Dev nD) (g : Fin 8) {s d : ℕ} (hs : g.val < s) (hd : g.val < d) {α : Type} {Q : α → sProp 𝕄}
    {sp₁ sp₂ : Space} {src : Memref sig .tc sp₁ S128x512 .f32} {dst : Memref sig .tc sp₂ S128x512 .f32} (hN : dst.view.dmaCredit = NB)
    {sm : DmaSem sig} (hsm : sm = outS g) {h1} {h2}
    {rest : Prog (TpuEff nD τ sig (Elt F) Λ₀ .tc) α} :
    iprop(recs m K ∗ (owing c 0 ∗ blkSt m c s d g.val))
      ⊢ iprop(((owing c 0 ∗ blkSt m c s d (g.val + 1)) -∗ wpk c rest Q)
        -∗ wpk c (Prog.lift (.waitDma2 sm src dst h1 h2) >>= fun _ => rest) Q) := by
  subst hsm
  simp only [Prog.lift, Prog.bind_op, Prog.bind_ret, wpk]
  have h0 : phase s d g.val g = 2 := by unfold phase; rw [if_pos (by omega), if_pos (by omega), if_neg (by omega)]
  have h1 : phase s d (g.val + 1) g = 3 := by unfold phase; rw [if_pos (by omega), if_pos (by omega), if_pos (by omega)]
  have h2 : ∀ i, i ≠ g → phase s d (g.val + 1) i = phase s d g.val i := fun i hi => by
    have : i.val ≠ g.val := fun e => hi (Fin.ext e)
    unfold phase
    by_cases h : i.val < g.val
    · rw [if_pos h, if_pos (by omega : i.val < g.val + 1)]
    · rw [if_neg h, if_neg (by omega : ¬ i.val < g.val + 1)]
  rw [blk_take m c s d g.val g 2 h0, blk_put m c s d g.val s d (g.val + 1) g 3 h1 h2]
  rw [blkAt_2, blkAt_3]
  unfold blk2 blk3 owing
  iintro ⟨-, ⟨%W, HO⟩, ⟨%f, HF⟩, Hrest⟩ Hk
  iapply (wp_waitLocal (countersEmb (U := UU)) 𝒱₀ (c : Thread nD τ) none () (N := NB) hN) $$ [HF HO]
  · isplitl [HF] <;> iassumption
  iintro ⟨⟨Ho, Hs⟩, Hv, HO⟩
  ihave Ho := (o_copied m c g f) $$ Ho
  iapply Hk
  isplitl [HO]; · iexists _; iexact HO
  isplitr [Hrest]
  · isplitl [Hs]; · iexact Hs
    isplitl [Ho] <;> iassumption
  iexact Hrest

end Cert.PrefixSum

end
-- ==== Proof.PartA.lean ====
/-
The kernel's first two parts at a symbolic device: the signals, the copy in, the column totals.
-/
module

public import proofs.«01_k».proof.Proof.Blocks

@[expose] public section

set_option maxHeartbeats 8000000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-- The signals to devices 0 to 7. -/
theorem part1 (c : Dev nD) (R : sProp 𝕄) (Q : (Σ' (_ : Dev nD) (_ : BitVec 32), Sems sig S_) → sProp 𝕄)
    (hQ : iprop(recs m K ∗ sigSt c 8 ∗ R) ⊢ Q ⟨c, meW c, SemArray.scalar (sig.barrier 0 rfl)⟩) :
    iprop(recs m K ∗ sigSt c 0 ∗ R) ⊢ wpk c (k0_part1 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7) Q := by
  rw [k0_part1_eq_skeleton]
  unfold k0_part1_skel
  unfold wpk
  rw [Prog.lift, Prog.bind_op, wp_deviceId, Prog.bind_ret]
  refine next m K (sig_step m K c 0 (show k0_cond1 c = 1#1 ↔ c ≠ 0 from cond_ne c 0) (dv := fun h => ⟨k0_dev1, k0_dev1_lt c h⟩) (fun _ => Fin.ext k0_dev1_eq)) ?_
  refine next m K (sig_step m K c 1 (show k0_cond2 c = 1#1 ↔ c ≠ 1 from cond_ne c 1) (dv := fun h => ⟨k0_dev2, k0_dev2_lt c h⟩) (fun _ => Fin.ext k0_dev2_eq)) ?_
  refine next m K (sig_step m K c 2 (show k0_cond3 c = 1#1 ↔ c ≠ 2 from cond_ne c 2) (dv := fun h => ⟨k0_dev3, k0_dev3_lt c h⟩) (fun _ => Fin.ext k0_dev3_eq)) ?_
  refine next m K (sig_step m K c 3 (show k0_cond4 c = 1#1 ↔ c ≠ 3 from cond_ne c 3) (dv := fun h => ⟨k0_dev4, k0_dev4_lt c h⟩) (fun _ => Fin.ext k0_dev4_eq)) ?_
  refine next m K (sig_step m K c 4 (show k0_cond5 c = 1#1 ↔ c ≠ 4 from cond_ne c 4) (dv := fun h => ⟨k0_dev5, k0_dev5_lt c h⟩) (fun _ => Fin.ext k0_dev5_eq)) ?_
  refine next m K (sig_step m K c 5 (show k0_cond6 c = 1#1 ↔ c ≠ 5 from cond_ne c 5) (dv := fun h => ⟨k0_dev6, k0_dev6_lt c h⟩) (fun _ => Fin.ext k0_dev6_eq)) ?_
  refine next m K (sig_step m K c 6 (show k0_cond7 c = 1#1 ↔ c ≠ 6 from cond_ne c 6) (dv := fun h => ⟨k0_dev7, k0_dev7_lt c h⟩) (fun _ => Fin.ext k0_dev7_eq)) ?_
  refine next m K (sig_step m K c 7 (show k0_cond8 c = 1#1 ↔ c ≠ 7 from cond_ne c 7) (dv := fun h => ⟨k0_dev8, k0_dev8_lt c h⟩) (fun _ => Fin.ext k0_dev8_eq)) ?_
  exact done c hQ

omit [FloatOps F] in
theorem sig_end (c : Dev nD) : (sigSt c 16 : sProp 𝕄) ⊢ owing c (rcvO c 0) := by
  unfold sigSt owing
  rw [barO_end, add_zero]
  iintro ⟨H, -⟩
  iexact H

/-- The signals to devices 8 to 15, the argument's block copied in and read, its column totals taken. -/
theorem part2 (c : Dev nD) (R : sProp 𝕄) (Q : (Σ' (_ : FVec F S128x128 .bf16) (_ : Vec F S1024x512 .f32), FVec F S512 .f32) → sProp 𝕄)
    (hQ : iprop(recs m K ∗ (totAny c ∗ owing c (rcvO c 0)) ∗ (inDone m c ∗ R)) ⊢ Q ⟨k0_pay1, xB m c, k0_pay2 (xB m c)⟩) :
    iprop(recs m K ∗ sigSt c 8 ∗ (inSt m c ∗ totAny c ∗ R)) ⊢ wpk c (k0_part2 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 c (meW c) (SemArray.scalar (sig.barrier 0 rfl))) Q := by
  rw [k0_part2_eq_skeleton]
  unfold k0_part2_skel
  refine next m K (sig_step m K c 8 (show k0_cond9 c = 1#1 ↔ c ≠ 8 from cond_ne c 8) (dv := fun h => ⟨k0_dev9, k0_dev9_lt c h⟩) (fun _ => Fin.ext k0_dev9_eq)) ?_
  refine next m K (sig_step m K c 9 (show k0_cond10 c = 1#1 ↔ c ≠ 9 from cond_ne c 9) (dv := fun h => ⟨k0_dev10, k0_dev10_lt c h⟩) (fun _ => Fin.ext k0_dev10_eq)) ?_
  refine next m K (sig_step m K c 10 (show k0_cond11 c = 1#1 ↔ c ≠ 10 from cond_ne c 10) (dv := fun h => ⟨k0_dev11, k0_dev11_lt c h⟩) (fun _ => Fin.ext k0_dev11_eq)) ?_
  refine next m K (sig_step m K c 11 (show k0_cond12 c = 1#1 ↔ c ≠ 11 from cond_ne c 11) (dv := fun h => ⟨k0_dev12, k0_dev12_lt c h⟩) (fun _ => Fin.ext k0_dev12_eq)) ?_
  refine next m K (sig_step m K c 12 (show k0_cond13 c = 1#1 ↔ c ≠ 12 from cond_ne c 12) (dv := fun h => ⟨k0_dev13, k0_dev13_lt c h⟩) (fun _ => Fin.ext k0_dev13_eq)) ?_
  refine next m K (sig_step m K c 13 (show k0_cond14 c = 1#1 ↔ c ≠ 13 from cond_ne c 13) (dv := fun h => ⟨k0_dev14, k0_dev14_lt c h⟩) (fun _ => Fin.ext k0_dev14_eq)) ?_
  refine next m K (sig_step m K c 14 (show k0_cond15 c = 1#1 ↔ c ≠ 14 from cond_ne c 14) (dv := fun h => ⟨k0_dev15, k0_dev15_lt c h⟩) (fun _ => Fin.ext k0_dev15_eq)) ?_
  refine next m K (sig_step m K c 15 (show k0_cond16 c = 1#1 ↔ c ≠ 15 from cond_ne c 15) (dv := fun h => ⟨k0_dev16, k0_dev16_lt c h⟩) (fun _ => Fin.ext k0_dev16_eq)) ?_
  refine convert m K (B := iprop(inSt m c ∗ (owing c (rcvO c 0) ∗ totAny c ∗ R))) ?_ ?_
  · iintro ⟨HS, HI, HT, HR⟩
    isplitl [HI]; · iexact HI
    isplitl [HS]; · iapply (sig_end c); iexact HS
    isplitl [HT] <;> iassumption
  refine next m K (in_start m K c) ?_
  refine convert m K pair_held ?_
  refine next m K (in_wait m K c) ?_
  refine convert m K (B := iprop(inDone m c ∗ (totAny c ∗ owing c (rcvO c 0) ∗ R))) ?_ ?_
  · iintro ⟨⟨HI, HO⟩, HT, HR⟩
    isplitl [HI]; · iexact HI
    isplitl [HT]; · iexact HT
    isplitl [HO] <;> iassumption
  refine next m K (x_load m K c) ?_
  refine convert m K swap_held ?_
  refine next m K (tot_load m K c) ?_
  refine convert m K (B := iprop((totAny c ∗ owing c (rcvO c 0)) ∗ (inDone m c ∗ R))) ?_ (done c hQ)
  iintro ⟨HT, HI, HO, HR⟩
  isplitl [HT HO]; · isplitl [HT] <;> iassumption
  isplitl [HI] <;> iassumption

end Cert.PrefixSum

end
-- ==== Proof.PartB.lean ====
/-
The kernel's third and fourth parts at a symbolic device: the totals stored, the barrier, the transfers.
-/
module

public import proofs.«01_k».proof.Proof.Blocks

@[expose] public section

set_option maxHeartbeats 8000000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-! ## Which semaphores and rows the transfers name -/

theorem send_at (j : Dev nD) {off : Fin 1 → ℕ} (h : off = ![j.val]) (inb) :
    ((cc0_scratch4.slice (Rect.unit (s := S16) off S1.size inb)).squeeze S_ squeezes_S1_S_).sem = sendS j := by
  subst h; revert j; decide
theorem recv_at (j : Dev nD) {off : Fin 1 → ℕ} (h : off = ![j.val]) (inb) :
    ((cc0_scratch5.slice (Rect.unit (s := S16) off S1.size inb)).squeeze S_ squeezes_S1_S_).sem = recvS j := by
  subst h; revert j; decide
theorem row_at (j : Dev nD) {off : Fin 2 → ℕ} (h : off = ![j.val, 0]) (inb) :
    comM.slice (Rect.unit (s := S16x512) off S1x512.size inb) (fun _ => rfl) = rowM j :=
  Memref.slice_unit_congr comM h inb (inbRow j) (fun _ => rfl) (fun _ => rfl)

/-! ## From the barrier to the transfers -/

/-- The tokens of device `c`'s transfers. -/
def sndTok (c : Dev nD) : sProp 𝕄 :=
  bigSep (Finset.univ.filter (c < ·)) fun j => iprop(dutyTok ER (sendCell c j) 0 j ∗ dutyTok ER (recvCell j c) 0 c)
/-- What of the totals' buffer is not lent. -/
def totKept (c : Dev nD) : sProp 𝕄 :=
  iprop(totPts m c (shareDrop fullShare nD) ∗ bigSep (Finset.univ.filter (fun j => ¬ c < j)) fun j => totPts m c (lent j))

theorem lent_split (c : Dev nD) : (bigSep Finset.univ fun j : Dev nD => totPts m c (lent j))
    = iprop((bigSep (Finset.univ.filter (c < ·)) fun j => totPts m c (lent j)) ∗ bigSep (Finset.univ.filter (fun j => ¬ c < j)) fun j => totPts m c (lent j)) := by
  rw [bigSep_filter_split Finset.univ (fun j : Dev nD => c < j)]
  rfl

theorem tot_split (c : Dev nD) :
    totPts m c fullShare ⊢ iprop((bigSep (Finset.univ.filter (c < ·)) fun j => totPts m c (lent j)) ∗ totKept m c) := by
  unfold totKept
  refine (show totPts m c fullShare ⊢ iprop(totPts m c (shareDrop fullShare nD) ∗ bigSep Finset.univ fun j : Dev nD => totPts m c (lent j)) from
    pointsTo_toks_split fullShare nD).trans ?_
  rw [lent_split m c]
  iintro ⟨HD, HA, HB⟩
  isplitl [HA]; · iexact HA
  isplitl [HD] <;> iassumption
theorem tot_join (c : Dev nD) :
    iprop((bigSep (Finset.univ.filter (c < ·)) fun j => totPts m c (lent j)) ∗ totKept m c) ⊢ totPts m c fullShare := by
  unfold totKept
  have h : iprop(totPts m c (shareDrop fullShare nD) ∗ bigSep Finset.univ fun j : Dev nD => totPts m c (lent j)) ⊢ totPts m c fullShare :=
    pointsTo_toks_join fullShare nD
  rw [lent_split m c] at h
  exact swap_held.trans h

omit [FloatOps F] in
/-- What the barrier's units carried: row `c` of every later device. -/
theorem bar_rows (c : Dev nD) : (bigSep (Finset.univ.filter (fun d => d ≠ c)) fun d => barPay (F := F) c d)
    ⊢ (bigSep (Finset.univ.filter (c < ·)) fun d => iprop(∃ f, rowPts (F := F) d c f) : sProp 𝕄) := by
  have hs : Finset.univ.filter (fun d : Dev nD => c < d) ⊆ Finset.univ.filter (fun d : Dev nD => d ≠ c) := fun d hd =>
    Finset.mem_filter.mpr ⟨Finset.mem_univ _, (Finset.mem_filter.mp hd).2.ne'⟩
  refine (bigSep_subset hs).trans (Entails.of_eq (bigSep_congr fun d hd => ?_))
  unfold barPay
  rw [if_pos (Finset.mem_filter.mp hd).2]

theorem snd_begin (c : Dev nD) (R : sProp 𝕄) :
    iprop(barDone c ∗ (totPts m c fullShare ∗ sndTok c ∗ R))
      ⊢ iprop(sndSt m c 0 ∗ (atPos ER (barCell c) 1 ∅ 0 ∗ totKept m c ∗ R)) := by
  unfold barDone sndSt sndTok owing
  rw [prog_start, bigSep_sep', bigSep_sep', bigSep_sep', bigSep_sep']
  iintro ⟨⟨HO, Hat, Hp⟩, HT, ⟨Ht1, Ht2⟩, HR⟩
  ihave Hp := (bar_rows c) $$ Hp
  ihave ⟨HL, HK⟩ := (tot_split m c) $$ HT
  isplitl [HO Hp Ht1 Ht2 HL]
  · isplitl [HO]; · iexact HO
    isplitl [Ht1]; · iexact Ht1
    isplitl [Ht2]; · iexact Ht2
    isplitl [HL] <;> iassumption
  isplitl [Hat]; · iexact Hat
  isplitl [HK] <;> iassumption

/-- The totals stored, the barrier waited for, the transfers to devices 0 to 6. -/
theorem part3 (c : Dev nD) (R : sProp 𝕄) (Q : PUnit → sProp 𝕄)
    (hQ : iprop(recs m K ∗ sndSt m c 7 ∗ (atPos ER (barCell c) 1 ∅ 0 ∗ totKept m c ∗ R)) ⊢ Q ⟨⟩) :
    iprop(recs m K ∗ totAny c ∗ (barSt c ∗ sndTok c ∗ R)) ⊢ wpk c (k0_part3 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 c (meW c) (SemArray.scalar (sig.barrier 0 rfl)) (k0_pay2 (xB m c))) Q := by
  rw [k0_part3_eq_skeleton]
  unfold k0_part3_skel
  refine next m K (tot_store m K c) ?_
  refine convert m K swap_held ?_
  refine next m K (bar_wait m K c) ?_
  refine convert m K (snd_begin m c R) ?_
  refine next m K (snd_step m K c 0 (show k0_cond17 c = 1#1 ↔ c < 0 from cond_lt c 0) (dv := fun h => ⟨k0_dev17, k0_dev17_lt c h⟩) (fun _ => Fin.ext k0_dev17_eq) (fun h => row_at c (k0_off2_eq c) (k0_off2_inb c h)) (fun _ => send_at 0 rfl _) (fun h => recv_at c (k0_off1_eq c) (k0_off1_inb c h))) ?_
  refine next m K (snd_step m K c 1 (show k0_cond18 c = 1#1 ↔ c < 1 from cond_lt c 1) (dv := fun h => ⟨k0_dev18, k0_dev18_lt c h⟩) (fun _ => Fin.ext k0_dev18_eq) (fun h => row_at c (k0_off4_eq c) (k0_off4_inb c h)) (fun _ => send_at 1 rfl _) (fun h => recv_at c (k0_off3_eq c) (k0_off3_inb c h))) ?_
  refine next m K (snd_step m K c 2 (show k0_cond19 c = 1#1 ↔ c < 2 from cond_lt c 2) (dv := fun h => ⟨k0_dev19, k0_dev19_lt c h⟩) (fun _ => Fin.ext k0_dev19_eq) (fun h => row_at c (k0_off6_eq c) (k0_off6_inb c h)) (fun _ => send_at 2 rfl _) (fun h => recv_at c (k0_off5_eq c) (k0_off5_inb c h))) ?_
  refine next m K (snd_step m K c 3 (show k0_cond20 c = 1#1 ↔ c < 3 from cond_lt c 3) (dv := fun h => ⟨k0_dev20, k0_dev20_lt c h⟩) (fun _ => Fin.ext k0_dev20_eq) (fun h => row_at c (k0_off8_eq c) (k0_off8_inb c h)) (fun _ => send_at 3 rfl _) (fun h => recv_at c (k0_off7_eq c) (k0_off7_inb c h))) ?_
  refine next m K (snd_step m K c 4 (show k0_cond21 c = 1#1 ↔ c < 4 from cond_lt c 4) (dv := fun h => ⟨k0_dev21, k0_dev21_lt c h⟩) (fun _ => Fin.ext k0_dev21_eq) (fun h => row_at c (k0_off10_eq c) (k0_off10_inb c h)) (fun _ => send_at 4 rfl _) (fun h => recv_at c (k0_off9_eq c) (k0_off9_inb c h))) ?_
  refine next m K (snd_step m K c 5 (show k0_cond22 c = 1#1 ↔ c < 5 from cond_lt c 5) (dv := fun h => ⟨k0_dev22, k0_dev22_lt c h⟩) (fun _ => Fin.ext k0_dev22_eq) (fun h => row_at c (k0_off12_eq c) (k0_off12_inb c h)) (fun _ => send_at 5 rfl _) (fun h => recv_at c (k0_off11_eq c) (k0_off11_inb c h))) ?_
  refine next m K (snd_step m K c 6 (show k0_cond23 c = 1#1 ↔ c < 6 from cond_lt c 6) (dv := fun h => ⟨k0_dev23, k0_dev23_lt c h⟩) (fun _ => Fin.ext k0_dev23_eq) (fun h => row_at c (k0_off14_eq c) (k0_off14_inb c h)) (fun _ => send_at 6 rfl _) (fun h => recv_at c (k0_off13_eq c) (k0_off13_inb c h))) ?_
  exact done c hQ

/-- The transfers to devices 7 to 15. -/
theorem part4 (c : Dev nD) (R : sProp 𝕄) (Q : (Σ' (_ : FVec F S1024x512 .bf16), FVec F S1x512 .f32) → sProp 𝕄)
    (hQ : iprop(recs m K ∗ sndSt m c 16 ∗ R) ⊢ Q ⟨k0_pay4 (xB m c), k0_pay5⟩) :
    iprop(recs m K ∗ sndSt m c 7 ∗ R) ⊢ wpk c (k0_part4 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 c (meW c) (xB m c)) Q := by
  rw [k0_part4_eq_skeleton]
  unfold k0_part4_skel
  refine next m K (snd_step m K c 7 (show k0_cond24 c = 1#1 ↔ c < 7 from cond_lt c 7) (dv := fun h => ⟨k0_dev24, k0_dev24_lt c h⟩) (fun _ => Fin.ext k0_dev24_eq) (fun h => row_at c (k0_off16_eq c) (k0_off16_inb c h)) (fun _ => send_at 7 rfl _) (fun h => recv_at c (k0_off15_eq c) (k0_off15_inb c h))) ?_
  refine next m K (snd_step m K c 8 (show k0_cond25 c = 1#1 ↔ c < 8 from cond_lt c 8) (dv := fun h => ⟨k0_dev25, k0_dev25_lt c h⟩) (fun _ => Fin.ext k0_dev25_eq) (fun h => row_at c (k0_off18_eq c) (k0_off18_inb c h)) (fun _ => send_at 8 rfl _) (fun h => recv_at c (k0_off17_eq c) (k0_off17_inb c h))) ?_
  refine next m K (snd_step m K c 9 (show k0_cond26 c = 1#1 ↔ c < 9 from cond_lt c 9) (dv := fun h => ⟨k0_dev26, k0_dev26_lt c h⟩) (fun _ => Fin.ext k0_dev26_eq) (fun h => row_at c (k0_off20_eq c) (k0_off20_inb c h)) (fun _ => send_at 9 rfl _) (fun h => recv_at c (k0_off19_eq c) (k0_off19_inb c h))) ?_
  refine next m K (snd_step m K c 10 (show k0_cond27 c = 1#1 ↔ c < 10 from cond_lt c 10) (dv := fun h => ⟨k0_dev27, k0_dev27_lt c h⟩) (fun _ => Fin.ext k0_dev27_eq) (fun h => row_at c (k0_off22_eq c) (k0_off22_inb c h)) (fun _ => send_at 10 rfl _) (fun h => recv_at c (k0_off21_eq c) (k0_off21_inb c h))) ?_
  refine next m K (snd_step m K c 11 (show k0_cond28 c = 1#1 ↔ c < 11 from cond_lt c 11) (dv := fun h => ⟨k0_dev28, k0_dev28_lt c h⟩) (fun _ => Fin.ext k0_dev28_eq) (fun h => row_at c (k0_off24_eq c) (k0_off24_inb c h)) (fun _ => send_at 11 rfl _) (fun h => recv_at c (k0_off23_eq c) (k0_off23_inb c h))) ?_
  refine next m K (snd_step m K c 12 (show k0_cond29 c = 1#1 ↔ c < 12 from cond_lt c 12) (dv := fun h => ⟨k0_dev29, k0_dev29_lt c h⟩) (fun _ => Fin.ext k0_dev29_eq) (fun h => row_at c (k0_off26_eq c) (k0_off26_inb c h)) (fun _ => send_at 12 rfl _) (fun h => recv_at c (k0_off25_eq c) (k0_off25_inb c h))) ?_
  refine next m K (snd_step m K c 13 (show k0_cond30 c = 1#1 ↔ c < 13 from cond_lt c 13) (dv := fun h => ⟨k0_dev30, k0_dev30_lt c h⟩) (fun _ => Fin.ext k0_dev30_eq) (fun h => row_at c (k0_off28_eq c) (k0_off28_inb c h)) (fun _ => send_at 13 rfl _) (fun h => recv_at c (k0_off27_eq c) (k0_off27_inb c h))) ?_
  refine next m K (snd_step m K c 14 (show k0_cond31 c = 1#1 ↔ c < 14 from cond_lt c 14) (dv := fun h => ⟨k0_dev31, k0_dev31_lt c h⟩) (fun _ => Fin.ext k0_dev31_eq) (fun h => row_at c (k0_off30_eq c) (k0_off30_inb c h)) (fun _ => send_at 14 rfl _) (fun h => recv_at c (k0_off29_eq c) (k0_off29_inb c h))) ?_
  refine next m K (snd_step m K c 15 (show k0_cond32 c = 1#1 ↔ c < 15 from cond_lt c 15) (dv := fun h => ⟨k0_dev32, k0_dev32_lt c h⟩) (fun _ => Fin.ext k0_dev32_eq) (fun h => row_at c (k0_off32_eq c) (k0_off32_inb c h)) (fun _ => send_at 15 rfl _) (fun h => recv_at c (k0_off31_eq c) (k0_off31_inb c h))) ?_
  exact done c hQ

end Cert.PrefixSum

end
-- ==== Proof.PartC.lean ====
/-
The kernel's fifth to seventh parts at a symbolic device: the block's running sums, the waits for the rows.
-/
module

public import proofs.«01_k».proof.Proof.PartB

@[expose] public section

set_option maxHeartbeats 8000000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-- The running sums, and the wait for row 0. -/
theorem part5 (c : Dev nD) (R : sProp 𝕄) (Q : (Σ' (_ : FVec F S128x512 .f32) (_ : FVec F S128x512 .f32) (_ : FVec F S128x512 .f32) (_ : FVec F S128x512 .f32) (_ : FVec F S128x512 .f32) (_ : FVec F S128x512 .f32) (_ : FVec F S128x512 .f32) (_ : FVec F S128x512 .f32), BitVec 32) → sProp 𝕄)
    (hQ : iprop(recs m K ∗ rcvSt m c 1 ∗ R) ⊢ Q ⟨cumB m c 0, cumB m c 1, cumB m c 2, cumB m c 3, cumB m c 4, cumB m c 5, cumB m c 6, cumB m c 7, Scalar.extui (Scalar.cmpi .sgt (meW c) 1#32)⟩) :
    iprop(recs m K ∗ rcvSt m c 0 ∗ R) ⊢ wpk c (k0_part5 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 (meW c) k0_pay1 (k0_pay4 (xB m c)) k0_pay5) Q := by
  rw [k0_part5_eq_skeleton]
  unfold k0_part5_skel
  refine next m K (rcv_step m K c 0 (cond_gt c 0) (fun _ => recv_at 0 rfl _) (fun _ => by rfl)) ?_
  exact done c hQ

/-- The waits for rows 1 to 8. -/
theorem part6 (c : Dev nD) (R : sProp 𝕄) (Q : (BitVec 32) → sProp 𝕄)
    (hQ : iprop(recs m K ∗ rcvSt m c 9 ∗ R) ⊢ Q 9#32) :
    iprop(recs m K ∗ rcvSt m c 1 ∗ R) ⊢ wpk c (k0_part6 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 (meW c) (Scalar.extui (Scalar.cmpi .sgt (meW c) 1#32))) Q := by
  rw [k0_part6_eq_skeleton]
  unfold k0_part6_skel
  refine next m K (rcv_step m K c 1 (cond_gt c 1) (fun _ => recv_at 1 rfl _) (fun _ => by rfl)) ?_
  refine next m K (rcv_step m K c 2 (cond_gt c 2) (fun _ => recv_at 2 rfl _) (fun _ => by rfl)) ?_
  refine next m K (rcv_step m K c 3 (cond_gt c 3) (fun _ => recv_at 3 rfl _) (fun _ => by rfl)) ?_
  refine next m K (rcv_step m K c 4 (cond_gt c 4) (fun _ => recv_at 4 rfl _) (fun _ => by rfl)) ?_
  refine next m K (rcv_step m K c 5 (cond_gt c 5) (fun _ => recv_at 5 rfl _) (fun _ => by rfl)) ?_
  refine next m K (rcv_step m K c 6 (cond_gt c 6) (fun _ => recv_at 6 rfl _) (fun _ => by rfl)) ?_
  refine next m K (rcv_step m K c 7 (cond_gt c 7) (fun _ => recv_at 7 rfl _) (fun _ => by rfl)) ?_
  refine next m K (rcv_step m K c 8 (cond_gt c 8) (fun _ => recv_at 8 rfl _) (fun _ => by rfl)) ?_
  exact done c hQ

/-- The waits for rows 9 to 15. -/
theorem part7 (c : Dev nD) (R : sProp 𝕄) (Q : (IVec S16x512 1) → sProp 𝕄)
    (hQ : iprop(recs m K ∗ rcvSt m c 16 ∗ R) ⊢ Q (k0_pay14 (meW c))) :
    iprop(recs m K ∗ rcvSt m c 9 ∗ R) ⊢ wpk c (k0_part7 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 (meW c) 9#32) Q := by
  rw [k0_part7_eq_skeleton]
  unfold k0_part7_skel
  refine next m K (rcv_step m K c 9 (cond_gt c 9) (fun _ => recv_at 9 rfl _) (fun _ => by rfl)) ?_
  refine next m K (rcv_step m K c 10 (cond_gt c 10) (fun _ => recv_at 10 rfl _) (fun _ => by rfl)) ?_
  refine next m K (rcv_step m K c 11 (cond_gt c 11) (fun _ => recv_at 11 rfl _) (fun _ => by rfl)) ?_
  refine next m K (rcv_step m K c 12 (cond_gt c 12) (fun _ => recv_at 12 rfl _) (fun _ => by rfl)) ?_
  refine next m K (rcv_step m K c 13 (cond_gt c 13) (fun _ => recv_at 13 rfl _) (fun _ => by rfl)) ?_
  refine next m K (rcv_step m K c 14 (cond_gt c 14) (fun _ => recv_at 14 rfl _) (fun _ => by rfl)) ?_
  refine next m K (rcv_step m K c 15 (cond_gt c 15) (fun _ => recv_at 15 rfl _) (fun _ => by rfl)) ?_
  exact done c hQ

end Cert.PrefixSum

end
-- ==== Proof.PartD.lean ====
/-
The kernel's eighth to tenth parts at a symbolic device: the result's blocks stored and sent out.
-/
module

public import proofs.«01_k».proof.Proof.Blocks

@[expose] public section

set_option maxHeartbeats 8000000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

theorem out_at (g : Fin 8) {off : Fin 1 → ℕ} (h : off = ![g.val]) (inb) :
    ((cc0_scratch7.slice (Rect.unit (s := S8) off S1.size inb)).squeeze S_ squeezes_S1_S_).sem = outS g := by
  subst h; revert g; decide

/-! ## The totals of the devices before -/

/-- The gather buffer, held whole. -/
def comPts (c : Dev nD) (f : Vec F S16x512 .f32) : sProp 𝕄 := ((c : Thread nD τ).loc cc0_scratch3) ↦{fullShare} (f : (cc0_scratch3 : Ref sig .tc).ty.Contents (Elt F))
/-- Its rows below `c` have the totals of those devices. -/
def Arrived (c : Dev nD) (f : Vec F S16x512 .f32) : Prop := ∀ i : S16x512.Idx, (i 0).val < c.val → f i = comB m i

theorem mask_lt (c r : Dev nD) : Scalar.cmpi .slt (BitVec.ofNat 32 r.val) (meW c) = 1#1 ↔ r < c := by
  revert c r; decide

theorem mask_eq (c : Dev nD) (i : S16x512.Idx) : k0_pay14 (meW c) i = Scalar.cmpi .slt (BitVec.ofNat 32 (i 0).val) (meW c) := by
  show IntOp.cmpi .slt (BitVec.ofNat 32 (0 * 16 + (i 0).val)) (meW c) = IntOp.cmpi .slt (BitVec.ofNat 32 (i 0).val) (meW c)
  rw [Nat.zero_mul, Nat.zero_add]

theorem acc_of_arrived (c : Dev nD) (f : Vec F S16x512 .f32) (h : Arrived m c f) : k0_pay15 (k0_pay14 (meW c)) f = accB m c := by
  have e : select (k0_pay14 (meW c)) f (broadcast S16x512 (Scalar.ofBits (F := F) .f32 0x00000000#32))
      = select (k0_pay14 (meW c)) (comB m) (broadcast S16x512 (Scalar.ofBits (F := F) .f32 0x00000000#32)) := by
    funext i
    show (if k0_pay14 (meW c) i = 1#1 then f i else _) = if k0_pay14 (meW c) i = 1#1 then comB m i else _
    by_cases hi : k0_pay14 (meW c) i = 1#1
    · rw [if_pos hi, if_pos hi]
      exact h i ((mask_lt c (i 0)).mp ((mask_eq c i).symm.trans hi))
    · rw [if_neg hi, if_neg hi]
  exact congrArg (fun v => shapeCast S1x512 (multiReduction (F := F) .add [0] S512 v 0x00000000#32 reduces_S16x512_S512 (.inl rfl) rfl) shapeCasts_S512_S1x512) e

theorem com_load (c : Dev nD) (f : Vec F S16x512 .f32) {α : Type} {Q : α → sProp 𝕄} {inb} {hl}
    {rest : Vec F S16x512 .f32 → Prog (TpuEff nD τ sig (Elt F) Λ₀ .tc) α} :
    iprop(recs m K ∗ comPts c f)
      ⊢ iprop((comPts c f -∗ wpk c (rest f) Q)
        -∗ wpk c (Prog.lift (.load comM (Rect.unit (s := S16x512) ![0, 0] S16x512.size inb).toLoadRect hl) >>= rest) Q) := by
  simp only [Prog.lift, Prog.bind_op, Prog.bind_ret, wpk]
  unfold comPts
  iintro ⟨-, Hv⟩ Hk
  iapply (wp_load 𝒱₀ (c : Thread nD τ) none Set.univ (m := comM) (Finset.subset_univ _)) $$ Hv
  iintro Hv
  rw [show comM.view.readAt (Elt F) (Rect.unit (s := S16x512) ![0, 0] S16x512.size inb).toLoadRect f = f from
    Memref.readAt_unit_zero (Elt F) cc0_scratch3 (by funext a; revert a; decide) inb _]
  iapply Hk
  iexact Hv

/-- The gather buffer read; blocks 0 and 1 stored and sent, block 2 stored. -/
theorem part8 (c : Dev nD) (f : Vec F S16x512 .f32) (hf : Arrived m c f) (R : sProp 𝕄) (Q : (FVec F S1x512 .f32) → sProp 𝕄)
    (hQ : iprop(recs m K ∗ blkSt m c 3 2 0 ∗ (comPts c f ∗ R)) ⊢ Q (accB m c)) :
    iprop(recs m K ∗ comPts c f ∗ (blkSt m c 0 0 0 ∗ R)) ⊢ wpk c (k0_part8 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 (cumB m c 0) (cumB m c 1) (cumB m c 2) (k0_pay14 (meW c))) Q := by
  rw [k0_part8_eq_skeleton]
  unfold k0_part8_skel
  have ha := acc_of_arrived m c f hf
  refine next m K (com_load m K c f) ?_
  refine convert m K swap_held ?_
  refine next m K (blk_load m K c 0 (by decide) (by decide) rfl (fun _ => .rfl)) ?_
  refine next m K (blk_store m K c 0 (by decide) (by decide) rfl (show k0_pay19 (cumB m c 0) (k0_pay15 (k0_pay14 (meW c)) f) = _ by rw [ha]; rfl)) ?_
  refine next m K (blk_send m K c 0 (by decide) (by decide) rfl rfl (out_at 0 rfl _)) ?_
  refine next m K (blk_load m K c 1 (by decide) (by decide) rfl (fun _ => .rfl)) ?_
  refine next m K (blk_store m K c 1 (by decide) (by decide) rfl (show k0_pay19 (cumB m c 1) (k0_pay15 (k0_pay14 (meW c)) f) = _ by rw [ha]; rfl)) ?_
  refine next m K (blk_send m K c 1 (by decide) (by decide) rfl rfl (out_at 1 rfl _)) ?_
  refine next m K (blk_load m K c 2 (by decide) (by decide) rfl (fun _ => .rfl)) ?_
  refine next m K (blk_store m K c 2 (by decide) (by decide) rfl (show k0_pay19 (cumB m c 2) (k0_pay15 (k0_pay14 (meW c)) f) = _ by rw [ha]; rfl)) ?_
  rw [← ha] at hQ
  exact done c hQ

/-- Blocks 2 to 5 sent, blocks 3 to 5 stored. -/
theorem part9 (c : Dev nD) (R : sProp 𝕄) (Q : (Σ' (_ : FVec F S128x512 .f32), Vec F S128x512 .f32) → sProp 𝕄)
    (hQ : ∀ v, iprop(recs m K ∗ blkSt m c 6 6 0 ∗ R) ⊢ Q ⟨k0_pay22 (cumB m c 6) (accB m c), v⟩) :
    iprop(recs m K ∗ blkSt m c 3 2 0 ∗ R) ⊢ wpk c (k0_part9 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 (cumB m c 3) (cumB m c 4) (cumB m c 5) (cumB m c 6) (accB m c)) Q := by
  rw [k0_part9_eq_skeleton]
  unfold k0_part9_skel
  refine next m K (blk_send m K c 2 (by decide) (by decide) rfl rfl (out_at 2 rfl _)) ?_
  refine next m K (blk_load m K c 3 (by decide) (by decide) rfl (fun _ => .rfl)) ?_
  refine next m K (blk_store m K c 3 (by decide) (by decide) rfl rfl) ?_
  refine next m K (blk_send m K c 3 (by decide) (by decide) rfl rfl (out_at 3 rfl _)) ?_
  refine next m K (blk_load m K c 4 (by decide) (by decide) rfl (fun _ => .rfl)) ?_
  refine next m K (blk_store m K c 4 (by decide) (by decide) rfl rfl) ?_
  refine next m K (blk_send m K c 4 (by decide) (by decide) rfl rfl (out_at 4 rfl _)) ?_
  refine next m K (blk_load m K c 5 (by decide) (by decide) rfl (fun _ => .rfl)) ?_
  refine next m K (blk_store m K c 5 (by decide) (by decide) rfl rfl) ?_
  refine next m K (blk_send m K c 5 (by decide) (by decide) rfl rfl (out_at 5 rfl _)) ?_
  refine next m K (blk_load m K c 6 (by decide) (by decide) rfl (fun v => done c (hQ v))) .rfl

/-- Blocks 6 and 7 stored and sent, the copies of blocks 0 and 1 waited for. -/
theorem part10 (c : Dev nD) (v : Vec F S128x512 .f32) (R : sProp 𝕄) (Q : PUnit → sProp 𝕄)
    (hQ : iprop(recs m K ∗ (owing c 0 ∗ blkSt m c 8 8 2) ∗ R) ⊢ Q ⟨⟩) :
    iprop(recs m K ∗ blkSt m c 6 6 0 ∗ (owing c 0 ∗ R)) ⊢ wpk c (k0_part10 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 (cumB m c 7) (accB m c) (k0_pay22 (cumB m c 6) (accB m c)) v) Q := by
  rw [k0_part10_eq_skeleton]
  unfold k0_part10_skel
  refine next m K (blk_store m K c 6 (by decide) (by decide) rfl rfl) ?_
  refine next m K (blk_send m K c 6 (by decide) (by decide) rfl rfl (out_at 6 rfl _)) ?_
  refine next m K (blk_load m K c 7 (by decide) (by decide) rfl (fun _ => .rfl)) ?_
  refine next m K (blk_store m K c 7 (by decide) (by decide) rfl rfl) ?_
  refine next m K (blk_send m K c 7 (by decide) (by decide) rfl rfl (out_at 7 rfl _)) ?_
  refine convert m K swap_held ?_
  refine convert m K pair_held ?_
  refine next m K (blk_wait m K c 0 (by decide) (by decide) (by rfl) (out_at 0 rfl _)) ?_
  refine next m K (blk_wait m K c 1 (by decide) (by decide) (by rfl) (out_at 1 rfl _)) ?_
  exact done c hQ

end Cert.PrefixSum

end
-- ==== Proof.PartE.lean ====
/-
The kernel's last parts at a symbolic device: the waits for the copies out and for the transfers to have left.
-/
module

public import proofs.«01_k».proof.Proof.PartB
public import proofs.«01_k».proof.Proof.PartD

@[expose] public section

set_option maxHeartbeats 8000000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-- What the send loop leaves, and the send cells' positions: what the waits for the sends start from. -/
def ackPre (c : Dev nD) : sProp 𝕄 :=
  bigSep (Finset.univ.filter (c < ·)) fun j => iprop(cred (tallyAt (sendCell c j) () N) ∗ atPos ER (sendCell c j) 0 ∅ 0)
theorem ack_begin (c : Dev nD) (R : sProp 𝕄) :
    iprop((owing c 0 ∗ blkSt m c 8 8 8) ∗ (ackPre c ∗ R)) ⊢ iprop(ackSt m c 0 ∗ (blkSt m c 8 8 8 ∗ R)) := by
  unfold ackSt ackPre owing
  rw [prog_start]
  iintro ⟨⟨HO, HB⟩, HA, HR⟩
  isplitl [HO HA]; · isplitl [HO] <;> iassumption
  isplitl [HB] <;> iassumption

/-- The copies of blocks 2 to 7 waited for, and the transfer to device 0. -/
theorem part11 (c : Dev nD) (R : sProp 𝕄) (Q : (BitVec 1) → sProp 𝕄)
    (hQ : iprop(recs m K ∗ ackSt m c 1 ∗ (blkSt m c 8 8 8 ∗ R)) ⊢ Q (Scalar.cmpi .slt (meW c) 1#32)) :
    iprop(recs m K ∗ (owing c 0 ∗ blkSt m c 8 8 2) ∗ (ackPre c ∗ R)) ⊢ wpk c (k0_part11 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 c (meW c)) Q := by
  rw [k0_part11_eq_skeleton]
  unfold k0_part11_skel
  refine next m K (blk_wait m K c 2 (by decide) (by decide) (by rfl) (out_at 2 rfl _)) ?_
  refine next m K (blk_wait m K c 3 (by decide) (by decide) (by rfl) (out_at 3 rfl _)) ?_
  refine next m K (blk_wait m K c 4 (by decide) (by decide) (by rfl) (out_at 4 rfl _)) ?_
  refine next m K (blk_wait m K c 5 (by decide) (by decide) (by rfl) (out_at 5 rfl _)) ?_
  refine next m K (blk_wait m K c 6 (by decide) (by decide) (by rfl) (out_at 6 rfl _)) ?_
  refine next m K (blk_wait m K c 7 (by decide) (by decide) (by rfl) (out_at 7 rfl _)) ?_
  refine convert m K (ack_begin m c R) ?_
  refine next m K (ack_step m K c 0 (show k0_cond49 c = 1#1 ↔ c < 0 from cond_lt c 0) (fun _ => send_at 0 rfl _) (fun _ => by rfl)) ?_
  exact done c hQ

/-- The transfers to devices 1 to 8 waited for. -/
theorem part12 (c : Dev nD) (b : BitVec 1) (R : sProp 𝕄) (Q : PUnit → sProp 𝕄)
    (hQ : iprop(recs m K ∗ ackSt m c 9 ∗ R) ⊢ Q ⟨⟩) :
    iprop(recs m K ∗ ackSt m c 1 ∗ R) ⊢ wpk c (k0_part12 (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7 c (meW c) b) Q := by
  rw [k0_part12_eq_skeleton]
  unfold k0_part12_skel
  refine next m K (ack_step m K c 1 (show k0_cond50 c = 1#1 ↔ c < 1 from cond_lt c 1) (fun _ => send_at 1 rfl _) (fun _ => by rfl)) ?_
  refine next m K (ack_step m K c 2 (show k0_cond51 c = 1#1 ↔ c < 2 from cond_lt c 2) (fun _ => send_at 2 rfl _) (fun _ => by rfl)) ?_
  refine next m K (ack_step m K c 3 (show k0_cond52 c = 1#1 ↔ c < 3 from cond_lt c 3) (fun _ => send_at 3 rfl _) (fun _ => by rfl)) ?_
  refine next m K (ack_step m K c 4 (show k0_cond53 c = 1#1 ↔ c < 4 from cond_lt c 4) (fun _ => send_at 4 rfl _) (fun _ => by rfl)) ?_
  refine next m K (ack_step m K c 5 (show k0_cond54 c = 1#1 ↔ c < 5 from cond_lt c 5) (fun _ => send_at 5 rfl _) (fun _ => by rfl)) ?_
  refine next m K (ack_step m K c 6 (show k0_cond55 c = 1#1 ↔ c < 6 from cond_lt c 6) (fun _ => send_at 6 rfl _) (fun _ => by rfl)) ?_
  refine next m K (ack_step m K c 7 (show k0_cond56 c = 1#1 ↔ c < 7 from cond_lt c 7) (fun _ => send_at 7 rfl _) (fun _ => by rfl)) ?_
  refine next m K (ack_step m K c 8 (show k0_cond57 c = 1#1 ↔ c < 8 from cond_lt c 8) (fun _ => send_at 8 rfl _) (fun _ => by rfl)) ?_
  exact done c hQ

end Cert.PrefixSum

end
-- ==== Proof.Rows.lean ====
/-
What the body starts from and ends with at a symbolic device, and the rows of the gather buffer between.
-/
module

public import proofs.«01_k».proof.Proof.PartA
public import proofs.«01_k».proof.Proof.PartC
public import proofs.«01_k».proof.Proof.PartE

@[expose] public section

set_option maxRecDepth 8000
set_option maxHeartbeats 800000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-! ## The rows of the gather buffer -/

omit [FloatOps F] in
theorem com_rows (c : Dev nD) (f : Vec F S16x512 .f32) :
    comPts c f = iprop((bigSep (Finset.univ.filter (· < c)) fun j => rowPts (F := F) c j f)
      ∗ bigSep (Finset.univ.filter (fun j => ¬ j < c)) fun j => rowPts (F := F) c j f) := by
  have h : comPts c f = bigSep Finset.univ fun j => rowPts (F := F) c j f :=
    (Ring.pointsTo_blocks (ℓ := (c : Thread nD τ).loc cc0_scratch3) rowSet row_disjoint row_cover f).trans
      (bigSep_congr fun j _ => by unfold rowPts; rfl)
  rw [h, bigSep_filter_split Finset.univ (fun j : Dev nD => j < c)]
  rfl

/-- The gather buffer of device `c` when every row it gets is in. -/
def mixB (c : Dev nD) (f : Vec F S16x512 .f32) : Vec F S16x512 .f32 := fun i => if (i 0).val < c.val then comB m i else f i
theorem mix_arrived (c : Dev nD) (f : Vec F S16x512 .f32) : Arrived m c (mixB m c f) := fun i h => if_pos h

theorem com_join (c : Dev nD) (f : Vec F S16x512 .f32) :
    iprop((bigSep (Finset.univ.filter (· < c)) fun j => rowPts (F := F) c j (comB m))
      ∗ bigSep (Finset.univ.filter (fun j => ¬ j < c)) fun j => rowPts (F := F) c j f) ⊢ comPts c (mixB m c f) := by
  rw [com_rows c (mixB m c f)]
  have h1 : (bigSep (Finset.univ.filter (· < c)) fun j => rowPts (F := F) c j (comB m))
      = bigSep (Finset.univ.filter (· < c)) fun j => rowPts (F := F) c j (mixB m c f) := bigSep_congr fun j hj => by
    refine pointsTo_congr fun i hi => (if_pos ?_).symm
    rw [(mem_row j i).mp hi]; exact (Finset.mem_filter.mp hj).2
  have h2 : (bigSep (Finset.univ.filter (fun j => ¬ j < c)) fun j => rowPts (F := F) c j f)
      = bigSep (Finset.univ.filter (fun j => ¬ j < c)) fun j => rowPts (F := F) c j (mixB m c f) := bigSep_congr fun j hj => by
    refine pointsTo_congr fun i hi => (if_neg ?_).symm
    rw [(mem_row j i).mp hi]; exact (Finset.mem_filter.mp hj).2
  rw [h1, h2]

omit [FloatOps F] in
/-- The rows below `c`, as what `c`'s units on the other devices' barriers carry. -/
theorem pay_split (c : Dev nD) : (bigSep (Finset.univ.filter (fun j => c ≠ j)) fun j => barPay (F := F) j c : sProp 𝕄)
    = iprop((bigSep (Finset.univ.filter (· < c)) fun j => barPay (F := F) j c) ∗ emp) := by
  have e1 : (Finset.univ.filter (fun j : Dev nD => c ≠ j)).filter (· < c) = Finset.univ.filter (· < c) := by
    ext j; simp only [Finset.mem_filter, Finset.mem_univ, true_and]
    exact ⟨fun h => h.2, fun h => ⟨h.ne', h⟩⟩
  have h2 : (bigSep ((Finset.univ.filter (fun j : Dev nD => c ≠ j)).filter (fun j => ¬ j < c)) fun j => barPay (F := F) j c)
      = (iprop(emp) : sProp 𝕄) :=
    (bigSep_congr (Ψ := fun _ => (iprop(emp) : sProp 𝕄)) fun j hj => by unfold barPay; rw [if_neg (Finset.mem_filter.mp hj).2]).trans (bigSep_emp_const _)
  rw [bigSep_filter_split (Finset.univ.filter (fun j : Dev nD => c ≠ j)) (fun j => j < c), e1, h2]
  rfl
omit [FloatOps F] in
theorem row_pay {c j : Dev nD} (h : j < c) (f : Vec F S16x512 .f32) : rowPts (F := F) c j f ⊢ barPay (F := F) j c := by
  unfold barPay; rw [if_pos h]
  iintro H; iexists f; iexact H
omit [FloatOps F] in
theorem rows_pay (c : Dev nD) (f : Vec F S16x512 .f32) : (bigSep (Finset.univ.filter (· < c)) fun j => rowPts (F := F) c j f)
    ⊢ bigSep (Finset.univ.filter (fun j => c ≠ j)) fun j => barPay (F := F) j c := by
  rw [pay_split]
  iintro H
  isplitl [H]
  · iapply (show (bigSep (Finset.univ.filter (· < c)) fun j => rowPts (F := F) c j f)
      ⊢ (bigSep (Finset.univ.filter (· < c)) fun j => barPay (F := F) j c : sProp 𝕄) from bigSep_mono fun j hj => row_pay (Finset.mem_filter.mp hj).2 f)
    iexact H
  · iempintro

/-! ## What the body starts from and ends with -/

/-- The tokens of device `c`'s signals and transfers, and the positions of its own cells. -/
def sigTok (c : Dev nD) : sProp 𝕄 := bigSep (Finset.univ.filter (c ≠ ·)) fun j => dutyTok ER (barCell j) 0 c
def posSend (c : Dev nD) : sProp 𝕄 := bigSep (Finset.univ.filter (c < ·)) fun j => atPos ER (sendCell c j) 0 ∅ 0
def posRecv (c : Dev nD) : sProp 𝕄 := bigSep (Finset.univ.filter (· < c)) fun j => atPos ER (recvCell c j) 0 ∅ 0
/-- The cells of `c` no transfer touches. -/
def idle (c : Dev nD) : sProp 𝕄 :=
  iprop((bigSep (Finset.univ.filter (fun j => ¬ c < j)) fun j => atPos ER (sendCell c j) 0 ∅ 0)
    ∗ bigSep (Finset.univ.filter (fun j => ¬ j < c)) fun j => atPos ER (recvCell c j) 0 ∅ 0)
/-- The credits `c` may wait for from the start. -/
def credBar (c : Dev nD) : sProp 𝕄 := cred (tallyAt (barCell c) () 15)
def credRecv (c : Dev nD) : sProp 𝕄 := bigSep (Finset.univ.filter (· < c)) fun j => cred (tallyAt (recvCell c j) () N)

/-- What the body does not touch before the barrier, -/
def later (c : Dev nD) (f : Vec F S16x512 .f32) : sProp 𝕄 :=
  iprop((credRecv c ∗ posRecv c) ∗ posSend c ∗ blkSt m c 0 0 0
    ∗ (bigSep (Finset.univ.filter (fun j => ¬ j < c)) fun j => rowPts (F := F) c j f) ∗ idle c)
/-- what it starts from, -/
def bodyPre (c : Dev nD) (f : Vec F S16x512 .f32) : sProp 𝕄 :=
  iprop(owing c (O₀ c) ∗ sigTok c ∗ sndTok c ∗ (credBar c ∗ atPos ER (barCell c) 0 ∅ 0) ∗ inSt m c ∗ totAny c
    ∗ (bigSep (Finset.univ.filter (· < c)) fun j => rowPts (F := F) c j f) ∗ later m c f)
/-- what the waits for the rows and for the transfers leave, -/
def gotRecv (c : Dev nD) : sProp 𝕄 := bigSep (Finset.univ.filter (· < c)) fun j => atPos ER (recvCell c j) 1 ∅ 0
def gotSend (c : Dev nD) : sProp 𝕄 := bigSep (Finset.univ.filter (c < ·)) fun j => atPos ER (sendCell c j) 1 ∅ 0
def over (c : Dev nD) : sProp 𝕄 :=
  iprop(gotRecv c ∗ atPos ER (barCell c) 1 ∅ 0 ∗ totKept m c ∗ inDone m c ∗ idle c)
/-- and what it ends with. -/
def bodyPost (c : Dev nD) (f : Vec F S16x512 .f32) : sProp 𝕄 :=
  iprop(owing c 0 ∗ gotSend c ∗ totPts m c fullShare ∗ blkSt m c 8 8 8 ∗ comPts c f
    ∗ gotRecv c ∗ atPos ER (barCell c) 1 ∅ 0 ∗ inDone m c ∗ idle c)

theorem begin_sig (c : Dev nD) (f : Vec F S16x512 .f32) : bodyPre m c f
    ⊢ iprop(sigSt c 0 ∗ (inSt m c ∗ totAny c ∗ ((credBar c ∗ atPos ER (barCell c) 0 ∅ 0) ∗ sndTok c ∗ later m c f))) := by
  unfold bodyPre sigSt owing O₀ sigTok
  rw [prog_start, bigSep_sep']
  iintro ⟨HO, Ht, Hs, Hb, HI, HT, HC, HL⟩
  ihave HC := (rows_pay (F := F) c f) $$ HC
  isplitl [HO Ht HC]
  · isplitl [HO]; · iexact HO
    isplitl [Ht] <;> iassumption
  isplitl [HI]; · iexact HI
  isplitl [HT]; · iexact HT
  isplitl [Hb]; · iexact Hb
  isplitl [Hs] <;> iassumption

theorem begin_bar (c : Dev nD) (R : sProp 𝕄) :
    iprop((totAny c ∗ owing c (rcvO c 0)) ∗ (inDone m c ∗ ((credBar c ∗ atPos ER (barCell c) 0 ∅ 0) ∗ sndTok c ∗ R)))
      ⊢ iprop(totAny c ∗ (barSt c ∗ sndTok c ∗ (inDone m c ∗ R))) := by
  unfold barSt credBar
  iintro ⟨⟨HT, HO⟩, HI, ⟨Hc, Hat⟩, Hs, HR⟩
  isplitl [HT]; · iexact HT
  isplitl [HO Hc Hat]
  · isplitl [HO]; · iexact HO
    isplitl [Hc] <;> iassumption
  isplitl [Hs]; · iexact Hs
  isplitl [HI] <;> iassumption

theorem begin_rcv (c : Dev nD) (f : Vec F S16x512 .f32) :
    iprop(sndSt m c 16 ∗ (atPos ER (barCell c) 1 ∅ 0 ∗ totKept m c ∗ (inDone m c ∗ later m c f)))
      ⊢ iprop(rcvSt m c 0 ∗ (blkSt m c 0 0 0 ∗ ackPre c ∗ (bigSep (Finset.univ.filter (fun j => ¬ j < c)) fun j => rowPts (F := F) c j f)
        ∗ atPos ER (barCell c) 1 ∅ 0 ∗ totKept m c ∗ inDone m c ∗ idle c)) := by
  unfold sndSt later rcvSt ackPre credRecv posRecv posSend
  rw [prog_end, prog_start, rcvO_end, bigSep_sep', bigSep_sep']
  iintro ⟨⟨HO, Hs⟩, Hb, HT, HI, ⟨Hc, Hp⟩, Hq, HB, HC, Hid⟩
  isplitl [HO Hc Hp]
  · isplitl [HO]; · iexact HO
    isplitl [Hc] <;> iassumption
  isplitl [HB]; · iexact HB
  isplitl [Hs Hq]; · isplitl [Hs] <;> iassumption
  isplitl [HC]; · iexact HC
  isplitl [Hb]; · iexact Hb
  isplitl [HT]; · iexact HT
  isplitl [HI] <;> iassumption

theorem begin_out (c : Dev nD) (f : Vec F S16x512 .f32) :
    iprop(rcvSt m c 16 ∗ (blkSt m c 0 0 0 ∗ ackPre c ∗ (bigSep (Finset.univ.filter (fun j => ¬ j < c)) fun j => rowPts (F := F) c j f)
        ∗ atPos ER (barCell c) 1 ∅ 0 ∗ totKept m c ∗ inDone m c ∗ idle c))
      ⊢ iprop(comPts c (mixB m c f) ∗ (blkSt m c 0 0 0 ∗ (owing c 0 ∗ ackPre c ∗ over m c))) := by
  unfold rcvSt over gotRecv owing
  rw [prog_end, bigSep_sep']
  iintro ⟨⟨HO, Hg, Hr⟩, HB, HA, HC, Hb, HT, HI, Hid⟩
  isplitl [Hr HC]
  · iapply (com_join m c f); isplitl [Hr] <;> iassumption
  isplitl [HB]; · iexact HB
  isplitl [HO]; · iexact HO
  isplitl [HA]; · iexact HA
  isplitl [Hg]; · iexact Hg
  isplitl [Hb]; · iexact Hb
  isplitl [HT]; · iexact HT
  isplitl [HI] <;> iassumption

theorem begin_end (c : Dev nD) (f : Vec F S16x512 .f32) :
    iprop(ackSt m c 16 ∗ (blkSt m c 8 8 8 ∗ (comPts c f ∗ over m c))) ⊢ bodyPost m c f := by
  unfold bodyPost ackSt over gotSend owing
  rw [prog_end, bigSep_sep']
  iintro ⟨⟨HO, Hg, HL⟩, HB, HC, Hr, Hb, HT, HI, Hid⟩
  isplitl [HO]; · iexact HO
  isplitl [Hg]; · iexact Hg
  isplitl [HL HT]
  · iapply (tot_join m c); isplitl [HL] <;> iassumption
  isplitl [HB]; · iexact HB
  isplitl [HC]; · iexact HC
  isplitl [Hr]; · iexact Hr
  isplitl [Hb]; · iexact Hb
  isplitl [HI] <;> iassumption

/-! ## The parts in order -/

end Cert.PrefixSum

end
-- ==== Proof.Exit.lean ====
/-
A device's buffers and semaphores whole, as the launch hands them over and takes them back; in pieces, as the body has
them. The shared cells closed at the end.
-/
module

public import proofs.«01_k».proof.Proof.Rows

@[expose] public section

set_option maxRecDepth 8000
set_option maxHeartbeats 400000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-! ## The pieces -/

/-- The scoped buffers, each at some contents; -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- the result array; -/
def outPts (c : Dev nD) (f : Vec F S1024x512 .f32) : sProp 𝕄 := ((c : Thread nD τ).loc main_v1) ↦{fullShare} (f : (main_v1 : Ref sig .tc).ty.Contents (Elt F))
/-- the local copies' semaphores; -/
def semIO (c : Dev nD) : sProp 𝕄 := iprop(semVal (inCell c) 0 ∗ bigSep Finset.univ fun g : Fin 8 => semVal (outCell c g) 0)
/-- the shared cells' counters; -/
def semCK (c : Dev nD) : sProp 𝕄 := bigSep Finset.univ fun k : CK => semVal (kcell (c, k)) 0
/-- the tokens a device pays with, and its cells' positions. -/
def linear (c : Dev nD) : sProp 𝕄 :=
  iprop(sigTok c ∗ sndTok c ∗ bigSep Finset.univ fun k : CK => atPos ER (kcell (c, k)) 0 ∅ 0)

omit [FloatOps F] in
/-- A family over the kinds of shared cell. -/
theorem ck_split (Φ : CK → sProp 𝕄) : bigSep Finset.univ Φ
    = iprop(Φ (.inl ()) ∗ (bigSep Finset.univ fun j => Φ (.inr (.inl j))) ∗ bigSep Finset.univ fun j => Φ (.inr (.inr j))) := by
  rw [BI.bigSep_univ_sum, BI.bigSep_univ_sum, show (Finset.univ : Finset Unit) = {()} from rfl, bigSep_singleton]
  rfl
omit [FloatOps F] in
theorem filter_split (p : Dev nD → Prop) [DecidablePred p] (Φ : Dev nD → sProp 𝕄) : bigSep Finset.univ Φ
    = iprop(bigSep (Finset.univ.filter p) Φ ∗ bigSep (Finset.univ.filter fun j => ¬ p j) Φ) := by
  rw [bigSep_filter_split Finset.univ p]
  rfl

theorem blk_all0 (c : Dev nD) : blkSt m c 0 0 0 = iprop((bigSep Finset.univ fun g => iprop(∃ f, stPts (F := F) c g f))
    ∗ (bigSep Finset.univ fun g => iprop(∃ f, oPts (F := F) c g f)) ∗ bigSep Finset.univ fun g : Fin 8 => semVal (outCell c g) 0) := by
  have h : blkSt m c 0 0 0 = bigSep Finset.univ fun g => blk0 (F := F) c g := bigSep_congr fun g _ => by
    rw [show phase 0 0 0 g = 0 from by simp [phase], blkAt_0]
  rw [h]
  unfold blk0
  rw [bigSep_sep', bigSep_sep']
theorem blk_all3 (c : Dev nD) : blkSt m c 8 8 8 = iprop((bigSep Finset.univ fun g => stPts c g (outF m c))
    ∗ (bigSep Finset.univ fun g => oPts c g (outF m c)) ∗ bigSep Finset.univ fun g : Fin 8 => semVal (outCell c g) 0) := by
  have h : blkSt m c 8 8 8 = bigSep Finset.univ fun g => blk3 m c g := bigSep_congr fun g _ => by
    rw [show phase 8 8 8 g = 3 from by simp [phase], blkAt_3]
  rw [h]
  unfold blk3
  rw [bigSep_sep', bigSep_sep']
omit [FloatOps F] in
theorem st_blocks (c : Dev nD) (f : Vec F S1024x512 .f32) :
    (((c : Thread nD τ).loc cc0_scratch1) ↦{fullShare} (f : (cc0_scratch1 : Ref sig .tc).ty.Contents (Elt F)) : sProp 𝕄) = bigSep Finset.univ fun g => stPts c g f :=
  (Ring.pointsTo_blocks (ℓ := (c : Thread nD τ).loc cc0_scratch1) blkSet blk_disjoint blk_cover f).trans
    (bigSep_congr fun g _ => by unfold stPts; rfl)
omit [FloatOps F] in
theorem o_blocks (c : Dev nD) (f : Vec F S1024x512 .f32) : (outPts c f : sProp 𝕄) = bigSep Finset.univ fun g => oPts c g f :=
  (Ring.pointsTo_blocks (ℓ := (c : Thread nD τ).loc main_v1) blkSet blk_disjoint blk_cover f).trans
    (bigSep_congr fun g _ => by unfold oPts; rfl)
omit [FloatOps F] in
theorem some_st (c : Dev nD) (g : Fin 8) (f) : stPts (F := F) c g f ⊢ iprop(∃ f, stPts (F := F) c g f) := by
  iintro H; iexists f; iexact H
omit [FloatOps F] in
theorem some_o (c : Dev nD) (g : Fin 8) (f) : oPts (F := F) c g f ⊢ iprop(∃ f, oPts (F := F) c g f) := by
  iintro H; iexists f; iexact H

theorem blk_begin (c : Dev nD) (f f' : Vec F S1024x512 .f32) :
    iprop((((c : Thread nD τ).loc cc0_scratch1) ↦{fullShare} (f : (cc0_scratch1 : Ref sig .tc).ty.Contents (Elt F)))
      ∗ outPts c f' ∗ bigSep Finset.univ fun g : Fin 8 => semVal (outCell c g) 0) ⊢ blkSt m c 0 0 0 := by
  rw [blk_all0, o_blocks]
  iintro ⟨Hs, Ho, Hv⟩
  ihave Hs := (Entails.of_eq (st_blocks c f)) $$ Hs
  isplitl [Hs]
  · iapply (show (bigSep Finset.univ fun g => stPts c g f) ⊢ (bigSep Finset.univ fun g => iprop(∃ f, stPts (F := F) c g f) : sProp 𝕄) from
      bigSep_mono fun g _ => some_st c g f)
    iexact Hs
  isplitl [Ho]
  · iapply (show (bigSep Finset.univ fun g => oPts c g f') ⊢ (bigSep Finset.univ fun g => iprop(∃ f, oPts (F := F) c g f) : sProp 𝕄) from
      bigSep_mono fun g _ => some_o c g f')
    iexact Ho
  iexact Hv

/-! ## Into the body -/

omit [FloatOps F] in
theorem com_whole (c : Dev nD) (f : Vec F S16x512 .f32) :
    (((c : Thread nD τ).loc cc0_scratch3) ↦{fullShare} (f : (cc0_scratch3 : Ref sig .tc).ty.Contents (Elt F)) : sProp 𝕄) ⊢ comPts c f := by
  unfold comPts; exact .rfl
omit [FloatOps F] in
theorem com_some (c : Dev nD) (f : Vec F S16x512 .f32) : comPts c f
    ⊢ iprop(∃ f : Buf (Elt F) ((c : Thread nD τ).loc cc0_scratch3), ((c : Thread nD τ).loc cc0_scratch3) ↦{fullShare} f) := by
  unfold comPts; iintro H; iexists f; iexact H
omit [FloatOps F] in
theorem xv_some (c : Dev nD) (f : Vec F S1024x512 .f32) : xvPts c f
    ⊢ iprop(∃ f : Buf (Elt F) ((c : Thread nD τ).loc cc0_scratch0), ((c : Thread nD τ).loc cc0_scratch0) ↦{fullShare} f) := by
  unfold xvPts; iintro H; iexists f; iexact H
theorem tot_some (c : Dev nD) : totPts m c fullShare
    ⊢ iprop(∃ f : Buf (Elt F) ((c : Thread nD τ).loc cc0_scratch2), ((c : Thread nD τ).loc cc0_scratch2) ↦{fullShare} f) := by
  unfold totPts
  rw [show (totM : Memref sig .tc .vmem S1x512 .f32).view.set = Finset.univ from View.set_whole _]
  iintro H; iexists (totB m c); iexact H

theorem enter (c : Dev nD) (f' : Vec F S1024x512 .f32) :
    iprop(linear c ∗ (credBar c ∗ credRecv c) ∗ xPts m c ∗ outPts c f' ∗ scr c ∗ semIO c ∗ owing c (O₀ c)) ⊢ iprop(∃ f, bodyPre m c f) := by
  unfold linear scr semIO
  rw [ck_split, filter_split (c < ·), filter_split (· < c) (fun j => atPos ER (kcell (c, .inr (.inr j))) 0 ∅ 0)]
  iintro ⟨⟨Ht, Hs, Hb, ⟨HpS, HiS⟩, HpR, HiR⟩, ⟨HcB, HcR⟩, HX, HO, ⟨⟨%f0, H0⟩, ⟨%f1, H1⟩, H2, ⟨%f3, H3⟩⟩, ⟨HvI, HvO⟩, How⟩
  ihave H3 := (com_whole (F := F) c f3) $$ H3
  ihave H3 := (Entails.of_eq (com_rows (F := F) c f3)) $$ H3
  icases H3 with ⟨H3, H3'⟩
  ihave HB := (blk_begin m c f1 f') $$ [H1 HO HvO]
  · isplitl [H1]; · iexact H1
    isplitl [HO] <;> iassumption
  iexists f3
  unfold bodyPre later inSt totAny posSend posRecv idle
  isplitl [How]; · iexact How
  isplitl [Ht]; · iexact Ht
  isplitl [Hs]; · iexact Hs
  isplitl [HcB Hb]
  · isplitl [HcB]; · iexact HcB
    iexact Hb
  isplitl [HX H0 HvI]
  · isplitl [HX]; · iexact HX
    isplitl [H0]; · iexists f0; unfold xvPts; iexact H0
    iexact HvI
  isplitl [H2]; · iexact H2
  isplitl [H3]; · iexact H3
  isplitl [HcR HpR]
  · isplitl [HcR]; · iexact HcR
    iexact HpR
  isplitl [HpS]; · iexact HpS
  isplitl [HB]; · iexact HB
  isplitl [H3']; · iexact H3'
  isplitl [HiS]; · iexact HiS
  iexact HiR

/-! ## Out of it -/

/-- A shared cell closed. -/
theorem close_at (ck : Dev nD × CK) {R : ℕ} (hR : ∀ r, R ≤ r → (sched (F := F) m).duties (kcell ck) r = ∅) :
    iprop(recs m K ∗ atPos ER (kcell ck) R ∅ 0) ⊢ |={Set.univ}=> semVal (kcell ck) 0 := by
  iintro ⟨#HR, Hat⟩
  ihave #HI := (recs_inv m K ck) $$ HR
  iapply (Rounds.cell_close ER (sched m) (Set.mem_univ (K ck)) (fun h => h) (R := R) hR)
  isplitr; · iexact HI
  iexact Hat
theorem close_set (c : Dev nD) (S : Finset (Dev nD)) (k : Dev nD → CK) {R : ℕ}
    (hR : ∀ j ∈ S, ∀ r, R ≤ r → (sched (F := F) m).duties (kcell (c, k j)) r = ∅) :
    iprop(recs m K ∗ bigSep S fun j => atPos ER (kcell (c, k j)) R ∅ 0) ⊢ |={Set.univ}=> bigSep S fun j => semVal (kcell (c, k j)) 0 :=
  (BI.bigSep_with_persistent fun j hj => close_at m K (c, k j) (hR j hj)).trans (bigSep_fupd _ _)

theorem close_all (c : Dev nD) :
    iprop(recs m K ∗ gotSend c ∗ gotRecv c ∗ atPos ER (barCell c) 1 ∅ 0 ∗ idle c) ⊢ |={Set.univ}=> semCK c := by
  unfold semCK gotSend gotRecv idle
  rw [ck_split, filter_split (c < ·), filter_split (· < c) (fun j => semVal (kcell (c, .inr (.inr j))) 0)]
  iintro ⟨#HR, HgS, HgR, Hb, HiS, HiR⟩
  imod (close_set m K c (Finset.univ.filter (c < ·)) (fun j => .inr (.inl j)) (R := 1) fun j _ => duties_later m _) $$ [HgS] with HgS
  · isplitr; · iexact HR
    iexact HgS
  imod (close_set m K c (Finset.univ.filter (· < c)) (fun j => .inr (.inr j)) (R := 1) fun j _ => duties_later m _) $$ [HgR] with HgR
  · isplitr; · iexact HR
    iexact HgR
  imod (close_set m K c (Finset.univ.filter (fun j => ¬ c < j)) (fun j => .inr (.inl j)) (R := 0) fun j hj => duties_none m _
    ((duties_send m c j).trans (if_neg (Finset.mem_filter.mp hj).2))) $$ [HiS] with HiS
  · isplitr; · iexact HR
    iexact HiS
  imod (close_set m K c (Finset.univ.filter (fun j => ¬ j < c)) (fun j => .inr (.inr j)) (R := 0) fun j hj => duties_none m _
    ((duties_recv m c j).trans (if_neg (Finset.mem_filter.mp hj).2))) $$ [HiR] with HiR
  · isplitr; · iexact HR
    iexact HiR
  imod (close_at m K (c, .inl ()) (R := 1) (duties_later m _)) $$ [Hb] with Hb
  · isplitr; · iexact HR
    iexact Hb
  imodintro
  isplitl [Hb]; · iexact Hb
  isplitl [HgS HiS]; · isplitl [HgS] <;> iassumption
  isplitl [HgR] <;> iassumption

/-- What a device has when its body is over. -/
def after (c : Dev nD) : sProp 𝕄 := iprop(xPts m c ∗ outPts c (outF m c) ∗ scr c ∗ semIO c ∗ semCK c)

theorem leave (c : Dev nD) (f : Vec F S16x512 .f32) :
    iprop(recs m K ∗ bodyPost m c f) ⊢ |={Set.univ}=> iprop(after m c ∗ owing c 0) := by
  unfold bodyPost after inDone scr semIO
  rw [blk_all3, o_blocks]
  iintro ⟨#HR, HO, HgS, HT, ⟨Hst, Hout, Hv⟩, HC, HgR, Hb, ⟨HX, H0, Hin⟩, Hid⟩
  imod (close_all m K c) $$ [HgS HgR Hb Hid] with HS
  · isplitr; · iexact HR
    isplitl [HgS]; · iexact HgS
    isplitl [HgR]; · iexact HgR
    isplitl [Hb] <;> iassumption
  imodintro
  ihave Hst := (Entails.of_eq (st_blocks c (outF m c)).symm) $$ Hst
  isplitr [HO]
  · isplitl [HX]; · iexact HX
    isplitl [Hout]; · iexact Hout
    isplitl [H0 Hst HT HC]
    · isplitl [H0]; · iapply (xv_some (F := F) c (xB m c)); iexact H0
      isplitl [Hst]; · iexists (outF m c); iexact Hst
      isplitl [HT]; · iapply (tot_some m c); iexact HT
      iapply (com_some (F := F) c f); iexact HC
    isplitr [HS]
    · isplitl [Hin] <;> iassumption
    iexact HS
  iexact HO

end Cert.PrefixSum

end
-- ==== Proof.Ghost.lean ====
/-
The launch's ghost state: invariants for every device's shared cells, the duty tokens dealt to the devices that pay
them, the credits each device waits with.
-/
module

public import proofs.«01_k».proof.Proof.Exit

@[expose] public section

set_option maxRecDepth 8000
set_option maxHeartbeats 400000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## The semaphores -/

/-- The kernel's own semaphores. -/
abbrev osem : Fin 41 → SemLoc sig := fun k => .dma k
theorem ownSemFacts : Pipeline.OwnSemFacts cfg0.spec osem := by decide

/-- The DMA semaphores by what they are for. -/
def dsem : (Dev nD ⊕ Dev nD) ⊕ (Unit ⊕ Fin 8) → Fin 41
  | .inl (.inl j) => sendS j
  | .inl (.inr j) => recvS j
  | .inr (.inl _) => inS
  | .inr (.inr g) => outS g
theorem dsem_injective : Function.Injective dsem := by decide
def dsems : (Dev nD ⊕ Dev nD) ⊕ (Unit ⊕ Fin 8) ≃ Fin 41 :=
  Equiv.ofBijective dsem ((Fintype.bijective_iff_injective_and_card dsem).mpr ⟨dsem_injective, by decide⟩)

abbrev own0 (c : Dev nD) : sProp 𝕄 := Pipeline.ownSems0 (Ix := Unit) (Name := ℕ) (U := UU) (Lvl := ℕ) (Val := Elt F) (τ := τ) osem c

omit [FloatOps F] in
theorem own0_eq (c : Dev nD) : own0 (F := F) c
    = iprop(((bigSep Finset.univ fun j => semVal (sendCell c j) 0) ∗ bigSep Finset.univ fun j => semVal (recvCell c j) 0) ∗ semIO c) := by
  unfold own0 Pipeline.ownSems0 semIO
  rw [BI.bigSep_univ_equiv dsems, BI.bigSep_univ_sum, BI.bigSep_univ_sum, BI.bigSep_univ_sum,
    show (Finset.univ : Finset Unit) = {()} from rfl, bigSep_singleton]
  rfl
omit [FloatOps F] in
theorem unscoped0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_in (c : Dev nD) : iprop(own0 (F := F) c ∗ unscopedSems0 c) ⊢ iprop(semCK (F := F) c ∗ semIO c) := by
  rw [own0_eq, unscoped0_eq]; unfold semCK; rw [ck_split]
  iintro ⟨⟨⟨HS, HR⟩, HI⟩, HB⟩
  isplitr [HI]
  · isplitl [HB]; · iexact HB
    isplitl [HS]; · iexact HS
    iexact HR
  iexact HI
omit [FloatOps F] in
theorem sems_out (c : Dev nD) : iprop(semCK (F := F) c ∗ semIO c) ⊢ iprop(own0 (F := F) c ∗ unscopedSems0 c) := by
  rw [own0_eq, unscoped0_eq]; unfold semCK; rw [ck_split]
  iintro ⟨⟨HB, HS, HR⟩, HI⟩
  isplitr [HB]
  · isplitr [HI]
    · isplitl [HS]; · iexact HS
      iexact HR
    iexact HI
  iexact HB

/-! ## The cells and tokens minted -/

theorem csem_injective : Function.Injective csem := by
  rintro (_ | j | j) (_ | j' | j') h
  · rfl
  · cases h
  · cases h
  · cases h
  · have := congrArg Fin.val (SemLoc.dma.inj h)
    rw [sendS_val, sendS_val] at this
    rw [Fin.ext this]
  · have := congrArg Fin.val (SemLoc.dma.inj h)
    rw [sendS_val, recvS_val] at this
    have := j.isLt; change j.val < 16 at this; omega
  · cases h
  · have := congrArg Fin.val (SemLoc.dma.inj h)
    rw [sendS_val, recvS_val] at this
    have := j'.isLt; change j'.val < 16 at this; omega
  · have := congrArg Fin.val (SemLoc.dma.inj h)
    rw [recvS_val, recvS_val] at this
    rw [Fin.ext (by omega : j.val = j'.val)]
theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  rw [h2]
def allCells : Finset (GSem nD τ sig) := Finset.univ.map ⟨kcell, kcell_injective⟩

/-- The duties of a device's cells: a unit per device on its barrier, one transfer on each other cell. -/
abbrev TK : Type := Dev nD ⊕ (Dev nD ⊕ Dev nD)
def tokOf (ct : Dev nD × TK) : GSem nD τ sig × ℕ × Dev nD := match ct.2 with
  | .inl d => (barCell ct.1, 0, d)
  | .inr (.inl j) => (sendCell ct.1 j, 0, j)
  | .inr (.inr j) => (recvCell ct.1 j, 0, j)
/-- The cell of a duty and its payer give the duty back. -/
theorem tokOf_injective : Function.Injective tokOf := by
  rintro ⟨c, t⟩ ⟨c', t'⟩ h
  have hc (c : Dev nD) (t : TK) : (tokOf (c, t)).1 = kcell (c, match t with | .inl _ => .inl () | .inr k => .inr k) := by
    rcases t with d | j | j <;> rfl
  have h1 := kcell_injective ((hc c t).symm.trans ((congrArg Prod.fst h).trans (hc c' t')))
  have hcc : c = c' := congrArg Prod.fst h1
  subst hcc
  have h2 := congrArg Prod.snd h1
  rcases t with d | k <;> rcases t' with d' | k'
  · have : d = d' := congrArg (fun x : GSem nD τ sig × ℕ × Dev nD => x.2.2) h
    rw [this]
  · cases h2
  · cases h2
  · cases h2; rfl
def allToks : Finset (GSem nD τ sig × ℕ × Dev nD) := Finset.univ.map ⟨tokOf, tokOf_injective⟩

def u₀ : UU := (initOf (Pipeline.cells cfgs cellOf_inj) (Pipeline.launchToks cfgs cellOf_inj), (initOf allCells allToks, (1 : Counters)))

/-- The duty tokens of device `c`'s own cells. -/
def toks (c : Dev nD) : sProp 𝕄 :=
  iprop((bigSep Finset.univ fun d => dutyTok ER (barCell c) 0 d) ∗ (bigSep Finset.univ fun j => dutyTok ER (sendCell c j) 0 j)
    ∗ bigSep Finset.univ fun j => dutyTok ER (recvCell c j) 0 j)

/-- What the launch deals device `c`; -/
def G (c : Dev nD) : sProp 𝕄 :=
  iprop((bigSep Finset.univ fun k : CK => roundState ER (sched (F := F) m) (kcell (c, k)) 0)
    ∗ ((bigSep Finset.univ fun k : CK => atPos ER (kcell (c, k)) 0 ∅ 0) ∗ bigSep Finset.univ fun k : CK => reached ER (kcell (c, k)) 0) ∗ toks c)

/-- the records every device reads; -/
def marks (K : Dev nD × CK → ℕ) : sProp 𝕄 :=
  iprop((bigSep Finset.univ fun ck : Dev nD × CK => (cellInv ER (sched (F := F) m) (K ck) (kcell ck) : sProp 𝕄))
    ∗ bigSep Finset.univ fun ck : Dev nD × CK => (reached ER (kcell ck) 0 : sProp 𝕄))
instance marks_persistent (K : Dev nD × CK → ℕ) : BI.Persistent (marks (F := F) m K) := by unfold marks; infer_instance
/-- and what the step over all devices makes of it. -/
def G' (c : Dev nD) : sProp 𝕄 := iprop(∃ K, marks m K ∗ linear c ∗ semIO c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [BI.bigSep_univ_sum, BI.bigSep_univ_sum]; rfl
  iintro HX
  imod (Rounds.fund ER (sched (F := F) m) allCells allToks) $$ HX with ⟨Hst, Hr, Hat, Htok⟩
  imodintro
  ihave Hst' := (Entails.of_eq (hX fun g => roundState ER (sched (F := F) m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

theorem invs_alloc (c : Dev nD) : iprop(semCK (F := F) c ∗ bigSep Finset.univ fun k : CK => roundState ER (sched (F := F) m) (kcell (c, k)) 0)
    ⊢ |={Set.univ}=> bigSep Finset.univ fun k => iprop(∃ κ : ℕ, cellInv ER (sched (F := F) m) κ (kcell (c, k))) := by
  unfold semCK
  rw [← bigSep_sep']
  exact (bigSep_mono fun k _ => (Rounds.body_intro ER (sched (F := F) m) (kcell (c, k))).trans inv_alloc).trans (bigSep_fupd _ _)

/-- What one device makes of its share: its cells' invariants, and the rest. -/
def opened (c : Dev nD) : sProp 𝕄 :=
  iprop((bigSep Finset.univ fun k => iprop(∃ κ : ℕ, cellInv ER (sched (F := F) m) κ (kcell (c, k))))
    ∗ (bigSep Finset.univ fun k : CK => reached ER (kcell (c, k)) 0) ∗ ((bigSep Finset.univ fun k : CK => atPos ER (kcell (c, k)) 0 ∅ 0) ∗ semIO c) ∗ toks c)

theorem core_alloc (c : Dev nD) : iprop(own0 (F := F) c ∗ unscopedSems0 c ∗ G m c) ⊢ |={Set.univ}=> opened m c := by
  unfold G opened
  iintro ⟨Hos, Hus, Hst, ⟨Hat, Hr⟩, Htok⟩
  ihave Hv := (sems_in (F := F) c) $$ [Hos Hus]
  · isplitl [Hos] <;> iassumption
  icases Hv with ⟨Hv, HI⟩
  imod (invs_alloc m c) $$ [Hv Hst] with Hinv
  · isplitl [Hv] <;> iassumption
  imodintro
  isplitl [Hinv]; · iexact Hinv
  isplitl [Hr]; · iexact Hr
  isplitl [Hat HI]
  · isplitl [Hat] <;> iassumption
  iexact Htok

/-! ## The tokens dealt to their payers -/

omit [FloatOps F] in
/-- A family over pairs of devices, summed the other way and cut to the pairs that satisfy `p`. -/
theorem deal (p : Dev nD → Dev nD → Prop) [∀ a b, Decidable (p a b)] (Φ : Dev nD → Dev nD → sProp 𝕄) :
    (bigSep Finset.univ fun a => bigSep Finset.univ fun b => Φ a b) ⊢ bigSep Finset.univ fun b => bigSep (Finset.univ.filter (p b)) fun a => Φ a b := by
  rw [BI.bigSep_univ_comm]
  exact bigSep_mono fun b _ => bigSep_subset (Finset.filter_subset _ _)
omit [FloatOps F] in
theorem keep (p : Dev nD → Dev nD → Prop) [∀ a b, Decidable (p a b)] (Φ : Dev nD → Dev nD → sProp 𝕄) :
    (bigSep Finset.univ fun a => bigSep Finset.univ fun b => Φ a b) ⊢ bigSep Finset.univ fun a => bigSep (Finset.univ.filter (p a)) fun b => Φ a b :=
  bigSep_mono fun b _ => bigSep_subset (Finset.filter_subset _ _)

omit [FloatOps F] in
theorem pay_eq : (bigSep Finset.univ fun c : Dev nD => iprop(sigTok (F := F) c ∗ sndTok c))
    = iprop((bigSep Finset.univ fun c : Dev nD => bigSep (Finset.univ.filter (c ≠ ·)) fun j => dutyTok ER (barCell j) 0 c)
      ∗ (bigSep Finset.univ fun c : Dev nD => bigSep (Finset.univ.filter (c < ·)) fun j => dutyTok ER (sendCell c j) 0 j)
      ∗ bigSep Finset.univ fun c : Dev nD => bigSep (Finset.univ.filter (c < ·)) fun j => (dutyTok ER (recvCell j c) 0 c : sProp 𝕄)) := by
  rw [bigSep_sep', ← bigSep_sep' Finset.univ (fun c : Dev nD => bigSep (Finset.univ.filter (c < ·)) fun j => (dutyTok ER (sendCell c j) 0 j : sProp 𝕄))]
  unfold sigTok sndTok
  simp only [bigSep_sep']
omit [FloatOps F] in
theorem toks_dealt : (bigSep Finset.univ fun c : Dev nD => (toks c : sProp 𝕄)) ⊢ bigSep Finset.univ fun c : Dev nD => iprop(sigTok (F := F) c ∗ sndTok c) := by
  rw [pay_eq]
  unfold toks
  rw [bigSep_sep', bigSep_sep']
  iintro ⟨H1, H2, H3⟩
  isplitl [H1]
  · iapply (deal (F := F) (fun c j => c ≠ j) fun j c => dutyTok ER (barCell j) 0 c); iexact H1
  isplitl [H2]
  · iapply (keep (F := F) (fun c j => c < j) fun c j => dutyTok ER (sendCell c j) 0 j); iexact H2
  iapply (deal (F := F) (fun c j => c < j) fun j c => dutyTok ER (recvCell j c) 0 c); iexact H3

theorem ghost_intro (K : Dev nD × CK → ℕ) (c : Dev nD) :
    iprop(marks m K ∗ ((bigSep Finset.univ fun k : CK => atPos ER (kcell (c, k)) 0 ∅ 0) ∗ semIO c) ∗ (sigTok c ∗ sndTok c)) ⊢ G' m c := by
  unfold G' linear
  iintro ⟨#HM, ⟨Hat, HI⟩, H1, H2⟩
  iexists K
  isplitr; · iexact HM
  isplitr [HI]
  · isplitl [H1]; · iexact H1
    isplitl [H2]; · iexact H2
    iexact Hat
  iexact HI

theorem regroup : (bigSep Finset.univ fun c : Dev nD => opened m c) ⊢ bigSep Finset.univ (G' m) := by
  unfold opened
  rw [bigSep_sep', bigSep_sep', bigSep_sep', ← bigSep_univ_prod (fun ck : Dev nD × CK => iprop(∃ κ : ℕ, cellInv ER (sched (F := F) m) κ (kcell ck))),
    ← bigSep_univ_prod (fun ck : Dev nD × CK => (reached ER (kcell ck) 0 : sProp 𝕄))]
  iintro ⟨HI, #HR, Hat, Htok⟩
  ihave HK := (BI.bigSep_exists_pi Finset.univ (fun (ck : Dev nD × CK) (κ : ℕ) => (cellInv ER (sched (F := F) m) κ (kcell ck) : sProp 𝕄))) $$ HI
  icases HK with ⟨%K, #HI⟩
  ihave Htk := (toks_dealt (F := F)) $$ Htok
  iapply (BI.bigSep_with_persistent (R := marks m K) fun c _ => ghost_intro m K c)
  isplitr
  · unfold marks; isplitl; · iexact HI
    iexact HR
  iapply (Entails.of_eq (bigSep_sep' Finset.univ (fun c : Dev nD => iprop((bigSep Finset.univ fun k : CK => atPos ER (kcell (c, k)) 0 ∅ 0) ∗ semIO (F := F) c))
    (fun c => iprop(sigTok (F := F) c ∗ sndTok c))).symm)
  isplitl [Hat]; · iexact Hat
  iexact Htk

/-- The step over all devices at once. -/
theorem glob : (bigSep Finset.univ fun c => iprop(own0 (F := F) c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credits -/

theorem tally_cell (g g' : GSem nD τ sig) (n : ℕ) : (tallyAt g () n : CellTallies nD τ sig Unit) g' () = if g = g' then n else 0 := by
  by_cases h : g = g'
  · subst h; rw [tallyAt_apply]; simp
  · rw [tallyAt_ne_cell (fun e => h e.symm), if_neg h]; rfl

theorem bar_ne_recv (a b c : Dev nD) : barCell a ≠ recvCell b c := fun h => by cases congrArg Prod.snd h

theorem bar_eq (a b : Dev nD) : barCell a = barCell b ↔ a = b :=
  ⟨fun h => congrArg (fun g : GSem nD τ sig => g.1.1) h, fun h => congrArg barCell h⟩
theorem recv_eq (a b d : Dev nD) : recvCell a d = recvCell b d ↔ a = b :=
  ⟨fun h => congrArg (fun g : GSem nD τ sig => g.1.1) h, fun h => congrArg (recvCell · d) h⟩

theorem owed_bar (d c : Dev nD) : O₀ d (barCell c) () = if d ≠ c then 1 else 0 := by
  unfold O₀ rcvO barO
  rw [Pi.add_apply, Finsupp.add_apply, Finset.sum_apply, Finset.sum_apply, Finsupp.finset_sum_apply, Finsupp.finset_sum_apply,
    Finset.sum_eq_zero fun j _ => (tally_cell _ _ _).trans (if_neg (bar_ne_recv _ _ _).symm), Nat.zero_add,
    Finset.sum_congr rfl fun j _ => (tally_cell (barCell j) (barCell c) 1).trans
      (if_congr (bar_eq j c) rfl rfl),
    Finset.sum_ite_eq']
  simp
theorem owed_recv (d c j : Dev nD) : O₀ d (recvCell c j) () = if d = j then (if j < c then N else 0) else 0 := by
  unfold O₀ rcvO barO
  rw [Pi.add_apply, Finsupp.add_apply, Finset.sum_apply, Finset.sum_apply, Finsupp.finset_sum_apply, Finsupp.finset_sum_apply,
    Finset.sum_eq_zero (s := Finset.univ.filter (fun k : Dev nD => d ≠ k ∧ 0 ≤ k.val)) fun k _ => (tally_cell _ _ _).trans (if_neg (bar_ne_recv _ _ _)), Nat.add_zero]
  by_cases h : d = j
  · subst h
    rw [if_pos rfl, Finset.sum_congr rfl fun k _ => (tally_cell (recvCell k d) (recvCell c d) N).trans
      (if_congr (recv_eq k c d) rfl rfl),
      Finset.sum_ite_eq']
    simp
  · rw [if_neg h]
    refine Finset.sum_eq_zero fun k _ => (tally_cell _ _ _).trans (if_neg fun e => h ?_)
    have := csem_injective (a₁ := .inr (.inr d)) (a₂ := .inr (.inr j)) (congrArg Prod.snd e)
    cases this; rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv {c j : Dev nD} (h : j < c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, if_pos h,
    Finset.sum_ite_eq' Finset.univ j fun _ => N, if_pos (Finset.mem_univ _)]

theorem recvS_injective : Function.Injective (fun j : Dev nD => (SemLoc.dma (recvS j) : SemLoc sig)) := fun j j' h => by
  have := csem_injective (a₁ := .inr (.inr j)) (a₂ := .inr (.inr j')) h
  cases this; rfl

omit [FloatOps F] in
theorem cred_rows (c : Dev nD) :
    (bigSep (Finset.univ.erase (SemLoc.reg barS)) fun sm : SemLoc sig =>
      cred (tallyOn ((c : Thread nD τ), sm) (launchCredit (Pipeline.owing O₀) 0 ((c : Thread nD τ), sm))) : sProp 𝕄) ⊢ credRecv (F := F) c := by
  refine (bigSep_subset (t := (Finset.univ.filter (· < c)).map ⟨_, recvS_injective⟩) fun sm hs => ?_).trans ?_
  · obtain ⟨j, hj⟩ := Finset.mem_map.mp hs
    rw [← hj.2]
    exact Finset.mem_erase.mpr ⟨fun h => (by cases h), Finset.mem_univ _⟩
  · rw [bigSep_map]
    unfold credRecv
    exact bigSep_mono fun j hj => Entails.of_eq (congrArg cred (launch_recv (Finset.mem_filter.mp hj).2))

omit [FloatOps F] in
theorem creds (c : Dev nD) : (Pipeline.launchCred O₀ c : sProp 𝕄) ⊢ iprop(credBar (F := F) c ∗ credRecv c) := by
  unfold Pipeline.launchCred credBar
  rw [bigSep_univ_at _ (SemLoc.reg barS), launch_bar]
  exact sep_mono_right (cred_rows c)

end Cert.PrefixSum

end
-- ==== Proof.Body.lean ====
/-
The whole kernel body at a symbolic device: what it starts from, what it ends with, its parts in order.
-/
module

public import proofs.«01_k».proof.Proof.Rows

@[expose] public section

set_option maxRecDepth 8000
set_option maxHeartbeats 8000000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

theorem part_then {α β : Type} (c : Dev nD) {A : sProp 𝕄} {p : Prog (TpuEff nD τ sig (Elt F) Λ₀ .tc) α}
    {k : α → Prog (TpuEff nD τ sig (Elt F) Λ₀ .tc) β} {Q : β → sProp 𝕄} (h : A ⊢ wpk c p (fun a => wpk c (k a) Q)) : A ⊢ wpk c (p >>= k) Q := by
  unfold wpk at h ⊢
  rw [wp_bind]
  exact h

theorem finish (c : Dev nD) {A : sProp 𝕄} {Q : PUnit → sProp 𝕄} (h : A ⊢ |={Set.univ}=> Q ⟨⟩) :
    A ⊢ wpk c (pure ⟨⟩ : Prog (TpuEff nD τ sig (Elt F) Λ₀ .tc) PUnit) Q := by
  rw [Prog.pure_eq_ret]
  unfold wpk
  rw [wp_ret]
  exact h

theorem body_run (c : Dev nD) (f : Vec F S16x512 .f32) (Q : PUnit → sProp 𝕄)
    (hQ : iprop(recs m K ∗ bodyPost m c (mixB m c f)) ⊢ |={Set.univ}=> Q ⟨⟩) :
    iprop(recs m K ∗ bodyPre m c f) ⊢ wpk c (cc0_body (F := F) xM (Memref.isWhole_whole _) oM (Memref.isWhole_whole _) xvM (Memref.isWhole_whole _)
      stM (Memref.isWhole_whole _) totM (Memref.isWhole_whole _) comM (Memref.isWhole_whole _) cc0_scratch4 cc0_scratch5 cc0_scratch6 cc0_scratch7) Q := by
  rw [cc0_body_eq_skeleton]
  unfold cc0_body_skel
  refine convert m K (begin_sig m c f) ?_
  refine part_then c (part1 m K c _ _ ?_)
  refine part_then c (part2 m K c _ _ ?_)
  refine convert m K (begin_bar m c _) ?_
  refine part_then c (part3 m K c _ _ ?_)
  refine part_then c (part4 m K c _ _ ?_)
  refine convert m K (begin_rcv m c f) ?_
  refine part_then c (part5 m K c _ _ ?_)
  refine part_then c (part6 m K c _ _ ?_)
  refine part_then c (part7 m K c _ _ ?_)
  refine convert m K (begin_out m c f) ?_
  refine part_then c (part8 m K c _ (mix_arrived m c f) _ _ ?_)
  refine convert m K (B := iprop(blkSt m c 3 2 0 ∗ (owing c 0 ∗ (ackPre c ∗ (comPts c (mixB m c f) ∗ over m c))))) ?_ ?_
  · iintro ⟨HB, HC, HO, HA, HR⟩
    isplitl [HB]; · iexact HB
    isplitl [HO]; · iexact HO
    isplitl [HA]; · iexact HA
    isplitl [HC] <;> iassumption
  refine part_then c (part9 m K c _ _ fun v => ?_)
  refine part_then c (part10 m K c v _ _ ?_)
  refine part_then c (part11 m K c _ _ ?_)
  refine part_then c (part12 m K c _ _ _ ?_)
  refine next m K (ack_step m K c 9 (show k0_cond58 c = 1#1 ↔ c < 9 from cond_lt c 9) (fun _ => send_at 9 rfl _) (fun _ => by rfl)) ?_
  refine next m K (ack_step m K c 10 (show k0_cond59 c = 1#1 ↔ c < 10 from cond_lt c 10) (fun _ => send_at 10 rfl _) (fun _ => by rfl)) ?_
  refine next m K (ack_step m K c 11 (show k0_cond60 c = 1#1 ↔ c < 11 from cond_lt c 11) (fun _ => send_at 11 rfl _) (fun _ => by rfl)) ?_
  refine next m K (ack_step m K c 12 (show k0_cond61 c = 1#1 ↔ c < 12 from cond_lt c 12) (fun _ => send_at 12 rfl _) (fun _ => by rfl)) ?_
  refine next m K (ack_step m K c 13 (show k0_cond62 c = 1#1 ↔ c < 13 from cond_lt c 13) (fun _ => send_at 13 rfl _) (fun _ => by rfl)) ?_
  refine next m K (ack_step m K c 14 (show k0_cond63 c = 1#1 ↔ c < 14 from cond_lt c 14) (fun _ => send_at 14 rfl _) (fun _ => by rfl)) ?_
  refine next m K (ack_step m K c 15 (show k0_cond64 c = 1#1 ↔ c < 15 from cond_lt c 15) (fun _ => send_at 15 rfl _) (fun _ => by rfl)) ?_
  exact finish c (convert m K (begin_end m c _) hQ)

end Cert.PrefixSum

end
-- ==== Proof.Launch.lean ====
/-
The launch: the body obligation of every device, and the run of the whole program.
-/
module

public import proofs.«01_k».proof.Proof.Ghost
public import proofs.«01_k».proof.Proof.Body
public import Idealize.ShloMosaic.Lib.Pipeline.CollectiveSegs
public import proofs.«01_k».proof.Proof.Gen.KernelIdeal.Launch
public import proofs.«01_k».proof.Proof.Gen.KernelIdeal.Points

@[expose] public section

set_option maxRecDepth 8000
set_option maxHeartbeats 400000

noncomputable section

namespace Cert.PrefixSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array's contents before the run. -/
abbrev out0 (c : Dev nD) : Vec F S1024x512 .f32 := m ((c : Thread nD τ).loc main_v1)

/-- What device `c` starts its kernel from, but for the scoped buffers. -/
def start (c : Dev nD) : sProp 𝕄 :=
  iprop(∃ K, recs m K ∗ (linear c ∗ semIO c) ∗ (credBar c ∗ credRecv c) ∗ xPts m c ∗ outPts c (out0 m c))

def dats (_ : Fin 1) (c : Dev nD) : Dat τ (Elt F) Unit ℕ UU ℕ cfg0 c where
  A w := w.elim0
  after w _ := w.elim0
  Φ t := match t with
    | ⟨0, _⟩ => iprop(start m c ∗ scr c)
    | ⟨_ + 1, _⟩ => after m c
  q _ := fullShare
  owed t := match t with
    | ⟨0, _⟩ => O₀ c
    | ⟨_ + 1, _⟩ => 0

theorem obligation_run (c : Dev nD) (Q : PUnit → sProp 𝕄) (hQ : iprop(after m c ∗ owing c 0) ⊢ Q ⟨⟩) :
    iprop((start m c ∗ scr c) ∗ owing c (O₀ c)) ⊢ wpk c (bodyAt0 t0_0) Q := by
  have h (K) : iprop(recs m K ∗ ∃ f, bodyPre m c f) ⊢ wpk c (bodyAt0 t0_0) Q := by
    iintro ⟨HR, %f, HB⟩
    iapply (body_run m K c f Q ((leave m K c _).trans (BI.fupd_mono hQ)))
    isplitl [HR] <;> iassumption
  unfold start
  iintro ⟨⟨⟨%K, HR, ⟨HL, HI⟩, HC, HX, HO⟩, HS⟩, How⟩
  iapply (h K)
  isplitl [HR]; · iexact HR
  iapply (enter m c (out0 m c))
  isplitl [HL]; · iexact HL
  isplitl [HC]; · iexact HC
  isplitl [HX]; · iexact HX
  isplitl [HO]; · iexact HO
  isplitl [HS]; · iexact HS
  isplitl [HI]; · iexact HI
  iexact How

omit [FloatOps F] in
/-- The kernel has no windows. -/
theorem no_windows (Φ : Fin cfg0.W → sProp 𝕄) : (iprop(emp) : sProp 𝕄) ⊢ bigSep Finset.univ Φ := by
  rw [show (Finset.univ : Finset (Fin cfg0.W)) = ∅ from rfl, BI.bigSep_empty]
  exact .rfl
theorem owes_in (c : Dev nD) : (dats m 0 c).owesAt () (t0_0 : Fin cfg0.N).castSucc ⊢ owing (F := F) c (O₀ c) := by
  unfold owing
  iintro ⟨%W, -, H⟩
  iexists W; iexact H
theorem owes_out (c : Dev nD) : owing (F := F) c 0 ⊢ (dats m 0 c).owesAt () (t0_0 : Fin cfg0.N).succ := by
  unfold owing
  iintro ⟨%W, H⟩
  iexists W
  isplitr; · ipureintro; exact fun _ _ => Or.inl trivial
  iexact H

theorem obligation_pre (c : Dev nD) (Φ : Fin cfg0.W → sProp 𝕄) :
    iprop((dats m 0 c).Φ (t0_0 : Fin cfg0.N).castSucc ∗ (dats m 0 c).owesAt () (t0_0 : Fin cfg0.N).castSucc ∗ bigSep Finset.univ Φ)
      ⊢ iprop((start m c ∗ scr c) ∗ owing c (O₀ c)) := by
  iintro ⟨H, Ho, -⟩
  isplitl [H]
  · iapply (Entails.of_eq (show (dats m 0 c).Φ (t0_0 : Fin cfg0.N).castSucc = iprop(start m c ∗ scr c) from rfl)); iexact H
  iapply (owes_in m c); iexact Ho
theorem obligation_post (c : Dev nD) (Φ : Fin cfg0.W → sProp 𝕄) : iprop(after m c ∗ owing c 0)
    ⊢ iprop((dats m 0 c).Φ (t0_0 : Fin cfg0.N).succ ∗ (dats m 0 c).owesAt () (t0_0 : Fin cfg0.N).succ ∗ bigSep Finset.univ Φ) := by
  iintro ⟨H, Ho⟩
  isplitl [H]
  · iapply (Entails.of_eq (show after m c = (dats m 0 c).Φ (t0_0 : Fin cfg0.N).succ from rfl)); iexact H
  isplitl [Ho]; · iapply (owes_out m c); iexact Ho
  iapply (no_windows (F := F) _); iempintro

theorem body_obligation (c : Dev nD) : BodyObligation (dats (F := F) m 0 c) (defs₀ (F := F)) 𝒱₀ () Set.univ := fun t => by
  rw [fin_N0 t]
  exact (obligation_pre m c _).trans (obligation_run m c _ (obligation_post m c _))

/-! ## The theorem's side conditions -/

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start marks recs xPts outPts
  iintro ⟨⟨HX, HO⟩, Hlev, Hcr, -, %K, ⟨HI, HR⟩, HL, HV⟩
  ihave Hc := (creds (F := F) c) $$ Hcr
  imodintro
  isplitl
  · iexists K
    isplitl [HI HR Hlev]
    · isplitl [HI]; · iexact HI
      isplitl [HR]; · iexact HR
      iexact Hlev
    isplitl [HL HV]
    · isplitl [HL]; · iexact HL
      iexact HV
    isplitl [Hc]; · iexact Hc
    isplitl [HX]; · iexact HX
    iexact HO
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scr c) from rfl, scopedRest0_eq]
  unfold scr
  iintro ⟨Hs, -, Hr⟩
  isplitl [Hs]; · iexact Hs
  iexact Hr

/-- What a device's run leaves for the final reading. -/
def left (c : Dev nD) : sProp 𝕄 := iprop(unscopedSems0 c ∗ xPts m c ∗ outPts c (outF m c))

theorem phi1_exit (c : Dev nD) :
    (dats m 0 c).Φ (Fin.last cfg0.N) ⊢ iprop(left m c ∗ own0 (F := F) c ∗ Pipeline.scopedRest cfg0.spec c) := by
  rw [show (dats m 0 c).Φ (Fin.last cfg0.N) = after m c from rfl, scopedRest0_eq]
  unfold after scr left
  iintro ⟨HX, HO, Hr, HI, HC⟩
  ihave HS := (sems_out (F := F) c) $$ [HC HI]
  · isplitl [HC] <;> iassumption
  icases HS with ⟨H1, H2⟩
  isplitl [H2 HX HO]
  · isplitl [H2]; · iexact H2
    isplitl [HX]; · iexact HX
    iexact HO
  isplitl [H1]; · iexact H1
  iexact Hr

theorem waits (c : Dev nD) : (levAts L lv : sProp 𝕄) ⊢ Pipeline.cellsWaits cfgs (dats m) () 0 c :=
  Pipeline.cellsWaits_intro cfgs (dats m) () 0 c fun w _ _ => w.elim0

omit [FloatOps F] in
theorem own_rounds (b : UB) : (BI.own ((embR : Emb (UB × Counters) 𝕄) (b, 1)) : sProp 𝕄) ⊢ BI.own ((ER (F := F)) b) := by
  unfold ER; exact .rfl
theorem fund_u₀ : (ownU u₀ : sProp 𝕄)
    ⊢ |={Set.univ}=> iprop(BI.own (EP (F := F) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_rounds (F := F) (initOf allCells allToks)) $$ HX
  imod (fund_all m) $$ H with HG
  imodintro
  isplitl [HP] <;> iassumption

/-! ## Reading the final state -/

/-- What the run leaves on device `c`. -/
def Left (c : Dev nD) (s : MemSt nD τ sig (Elt F)) : Prop :=
  s.mem ((c : Thread nD τ).loc main_arg0) = m ((c : Thread nD τ).loc main_arg0)
    ∧ s.mem ((c : Thread nD τ).loc main_v1) = (outF m c : Vec F S1024x512 .f32)
    ∧ ∀ sm : SemLoc sig, sm.isScoped .tc = false → s.sem ((c.tc : Thread nD τ), sm) = 0

theorem read_x (c : Dev nD) (s' : Phys nD τ sig (Elt F)) :
    iprop(xPts m c ∗ SI s') ⊢ iprop(⌜s'.mem.mem ((c : Thread nD τ).loc main_arg0) = m ((c : Thread nD τ).loc main_arg0)⌝ ∗ SI s') := by
  unfold xPts
  iintro ⟨Hx, HSI⟩
  icombine HSI Hx gives %h
  isplitr
  · ipureintro; exact Buf.eq_of_forall_mem_univ h
  iexact HSI
theorem read_out (c : Dev nD) (s' : Phys nD τ sig (Elt F)) :
    iprop(outPts c (outF m c) ∗ SI s') ⊢ iprop(⌜s'.mem.mem ((c : Thread nD τ).loc main_v1) = (outF m c : Vec F S1024x512 .f32)⌝ ∗ SI s') := by
  unfold outPts
  iintro ⟨Hx, HSI⟩
  icombine HSI Hx gives %h
  isplitr
  · ipureintro; exact Buf.eq_of_forall_mem_univ h
  iexact HSI

theorem read_left (c : Dev nD) (s' : Phys nD τ sig (Elt F)) :
    iprop(left m c ∗ emp ∗ SI s') ⊢ |={Set.univ}=> iprop(⌜Left m c s'.mem⌝ ∗ SI s') := by
  unfold left
  iintro ⟨⟨Hu, HX, HO⟩, -, HSI⟩
  ihave H := (read_x m c s') $$ [HX HSI]
  · isplitl [HX] <;> iassumption
  icases H with ⟨%hx, HSI⟩
  ihave H := (read_out m c s') $$ [HO HSI]
  · isplitl [HO] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hx, ho, hs⟩
  iexact HSI

/-! ## The run -/

/-- From any memory with zero counters, over any float values: every weakly fair execution of the program terminates, and
    every final state has each device's `x` unchanged, its result at `outF`, and every counter at zero. -/
theorem run_main : θ_run defs (onTc (τ := τ) (main (F := F))) ⟨m, fun _ => 0, ρ⟩
    (fun r => (∀ c, Left m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_u₀ m)
    (hglob := glob m)
    (hA := fun _ w => w.elim0) (hpf := fun _ k => k.elim0)
    (X := start m) (Y := left m) (Z := fun _ => iprop(emp))
    (hX := start_intro m ρ) (hin := phi0_intro m) (hout := phi1_exit m)
    (QY := Left m) (hY := read_left m)
    (hQ := fun _ h hs => ⟨fun c => (h c).2.2, sem_eq_zero hs fun c => (h c).2.2.2.2⟩)

end Cert.PrefixSum

end
-- ==== Proof.Running.lean ====
/-
The reference's value: a running sum of a matrix down its rows, read at an entry, is the sum of the column's entries up
to that row. Columns are read as functions of a natural number, zero past the last row, so that sums over rows are sums
over ranges.
-/
module

public import Idealize.ShloMosaic.Lib.Routing.OpsOne
public import Idealize.ShloMosaic.PureOps.Ideal

@[expose] public section

set_option maxHeartbeats 400000

noncomputable section

namespace Cert.PrefixSum

open Idealize.ShloMosaic Idealize.ShloMosaic.ValueIdx Idealize.ShloMosaic.Routing

/-- Column `k` of a matrix: the entry at row `s`, zero past the last row. -/
def col {R C : ℕ} (x : (shape2 R C).Idx → EReal) (k : Fin C) (s : ℕ) : EReal := if h : s < R then x (ix2 ⟨s, h⟩ k) else 0

theorem col_of_lt {R C : ℕ} (x : (shape2 R C).Idx → EReal) (k : Fin C) {s : ℕ} (h : s < R) : col x k s = x (ix2 ⟨s, h⟩ k) := dif_pos h

/-- A fold that adds is the start and the sum of what it adds. -/
theorem foldl_add {ι : Type*} (e : ι → EReal) (l : List ι) (a : EReal) : l.foldl (fun r n => r + e n) a = a + (l.map e).sum := by
  induction l generalizing a with
  | nil => simp
  | cons b l ih => rw [List.foldl_cons, ih, List.map_cons, List.sum_cons, add_assoc]

/-- A window as high as the matrix and one column wide, with one row less of padding above: the running sum of the column. -/
theorem window_rows {R Rm1 C : ℕ} (hR : Rm1 + 1 = R) (x : (shape2 R C).Idx → EReal)
    (h : (shape2 R C).ReduceWindows (![R, 1] : Fin 2 → ℕ) ![1, 1] ![Rm1, 0] ![0, 0] (shape2 R C)) (j : Fin R) (k : Fin C) :
    Ideal.hostReduceWindowAdd ![R, 1] ![1, 1] ![Rm1, 0] ![0, 0] h x 0 (ix2 j k) = ∑ s ∈ Finset.range (j.val + 1), col x k s := by
  subst hR
  have hj := j.isLt
  have hk := k.isLt
  unfold Ideal.hostReduceWindowAdd Host.reduceWindow
  refine (foldl_add _ _ _).trans ?_
  rw [zero_add, ← Fin.sum_univ_def]
  refine (Finset.sum_congr (g := fun n : Fin (shape2 (Rm1 + 1) 1).numel =>
    (fun w : ℕ => if Rm1 ≤ j.val + w then col x k (j.val + w - Rm1) else 0) n.val) rfl fun n _ => ?_).trans ?_
  · have hw0 : ((shape2 (Rm1 + 1) 1).rowMajor.symm n 0).val = n.val := by rw [symm_col]; rfl
    have hw1 : ((shape2 (Rm1 + 1) 1).rowMajor.symm n 1).val = 0 := by rw [symm_col]; rfl
    have hn : n.val < Rm1 + 1 := (n.cast (numel_col _)).isLt
    by_cases hle : Rm1 ≤ j.val + n.val
    · have hin : ∀ a : Fin 2, (![Rm1, 0] : Fin 2 → ℕ) a ≤ (ix2 j k a).val * (![1, 1] : Fin 2 → ℕ) a + ((shape2 (Rm1 + 1) 1).rowMajor.symm n a).val
          ∧ (ix2 j k a).val * (![1, 1] : Fin 2 → ℕ) a + ((shape2 (Rm1 + 1) 1).rowMajor.symm n a).val - (![Rm1, 0] : Fin 2 → ℕ) a
            < (shape2 (Rm1 + 1) C).size a := fun a => by
        match a with
        | ⟨0, _⟩ =>
          show Rm1 ≤ j.val * 1 + ((shape2 (Rm1 + 1) 1).rowMajor.symm n 0).val ∧ j.val * 1 + ((shape2 (Rm1 + 1) 1).rowMajor.symm n 0).val - Rm1 < Rm1 + 1
          rw [hw0]
          omega
        | ⟨1, _⟩ =>
          show 0 ≤ k.val * 1 + ((shape2 (Rm1 + 1) 1).rowMajor.symm n 1).val ∧ k.val * 1 + ((shape2 (Rm1 + 1) 1).rowMajor.symm n 1).val - 0 < C
          rw [hw1]
          omega
      refine (dif_pos hin).trans ?_
      show _ = if Rm1 ≤ j.val + n.val then col x k (j.val + n.val - Rm1) else 0
      rw [if_pos hle, col_of_lt x k (show j.val + n.val - Rm1 < Rm1 + 1 by omega)]
      refine congrArg x (funext fun a => Fin.ext ?_)
      match a with
      | ⟨0, _⟩ =>
        show j.val * 1 + ((shape2 (Rm1 + 1) 1).rowMajor.symm n 0).val - Rm1 = j.val + n.val - Rm1
        rw [hw0, Nat.mul_one]
      | ⟨1, _⟩ =>
        show k.val * 1 + ((shape2 (Rm1 + 1) 1).rowMajor.symm n 1).val - 0 = k.val
        rw [hw1]
        omega
    · refine (dif_neg fun hin => hle ?_).trans (if_neg hle).symm
      have h0 := (hin 0).1
      change Rm1 ≤ j.val * 1 + ((shape2 (Rm1 + 1) 1).rowMajor.symm n 0).val at h0
      omega
  refine (Fin.sum_univ_eq_sum_range (fun w : ℕ => if Rm1 ≤ j.val + w then col x k (j.val + w - Rm1) else 0) (shape2 (Rm1 + 1) 1).numel).trans ?_
  rw [numel_col, congrArg Finset.range (show Rm1 + 1 = (Rm1 - j.val) + (j.val + 1) by omega), Finset.sum_range_add,
    Finset.sum_eq_zero fun w hw => if_neg (by have := Finset.mem_range.mp hw; omega), zero_add]
  refine Finset.sum_congr rfl fun w _ => ?_
  rw [if_pos (by omega)]
  exact congrArg (col x k) (by omega)

end Cert.PrefixSum

end
-- ==== Proof.Value.lean ====
/-
The kernel's value in exact arithmetic: a block's running sums by a product with a lower triangle of ones, the last row
of a block carried into the next, and the totals of the devices before added to all of them.
-/
module

public import proofs.«01_k».proof.Proof.PartD
public import proofs.«01_k».proof.Proof.Running
public import Idealize.ShloMosaic.Lib.MatmulPlain
public import Idealize.ShloMosaic.PureOps.Ideal.Laws

@[expose] public section

set_option maxHeartbeats 400000

noncomputable section

namespace Cert.PrefixSum

open Cert.KernelIdeal Cert.KernelIdeal.Gen
open Idealize.ShloMosaic Idealize.ShloMosaic.ValueIdx Idealize.ShloMosaic.Routing Idealize.ShloMosaic.TcCoe

variable (m : (ℓ : Loc nD τ sig) → Buf (Elt Ideal) ℓ)

/-- The lower triangle: one on and below the diagonal, zero above. -/
theorem tri_apply (r s : Fin 128) : (k0_pay1 (F := Ideal)) (ix2 r s) = if s.val < r.val + 1 then (1 : EReal) else 0 := by
  have hr := r.isLt
  have hs := s.isLt
  show ((((IntOp.cmpi .sge (BitVec.ofNat 32 (0 * 128 + r.val)) (BitVec.ofNat 32 (0 * 128 + s.val))).setWidth 32).toInt : ℝ) : EReal) = _
  rw [Nat.zero_mul, Nat.zero_add, Nat.zero_add, WordCmp.cmpi_sge_ofNat (by omega) (by omega)]
  by_cases h : s.val < r.val + 1
  · rw [if_pos h, decide_eq_true (by omega), show ((BitVec.ofBool true).setWidth 32).toInt = 1 by decide]
    norm_num
  · rw [if_neg h, decide_eq_false (by omega), show ((BitVec.ofBool false).setWidth 32).toInt = 0 by decide]
    norm_num

/-- The triangle picks the first rows. -/
theorem tri_sum (r : Fin 128) (f : ℕ → EReal) : ∑ s : Fin 128, (k0_pay1 (F := Ideal)) (ix2 r s) * f s.val = ∑ s ∈ Finset.range (r.val + 1), f s := by
  have hr := r.isLt
  have e : ∀ s : Fin 128, (k0_pay1 (F := Ideal)) (ix2 r s) * f s.val = (fun n => if n < r.val + 1 then f n else 0) s.val := fun s => by
    rw [tri_apply]
    show _ = if s.val < r.val + 1 then f s.val else 0
    split
    · exact one_mul _
    · exact zero_mul _
  rw [Finset.sum_congr rfl fun s _ => e s, Fin.sum_univ_eq_sum_range (fun n => if n < r.val + 1 then f n else 0) 128, ← Finset.sum_filter]
  refine Finset.sum_congr (Finset.ext fun n => ?_) fun _ _ => rfl
  rw [Finset.mem_filter, Finset.mem_range, Finset.mem_range]
  omega

/-- A row broadcast down the block's rows. -/
theorem bc_row (p : FVec Ideal S1x512 .f32) (r : Fin 128) (k : Fin 512) :
    broadcastTo S128x512 p broadcasts_S1x512_S128x512 (ix2 r k) = p (ix2 0 k) := by
  refine congrArg p (funext fun a => Fin.ext ?_)
  match a with
  | ⟨0, _⟩ => rfl
  | ⟨1, _⟩ => rfl

/-- A block's step: where the row carried in is the sum of the rows before the block, the block holds the running sums. -/
theorem step_apply {o : ℕ} (h : S1024x512.Slices ![o, 0] S128x512) (x : FVec Ideal S1024x512 .bf16) (p : FVec Ideal S1x512 .f32)
    (ho : o + 128 ≤ 1024) (hp : ∀ k, p (ix2 0 k) = ∑ s ∈ Finset.range o, col x k s) (r : Fin 128) (k : Fin 512) :
    addf (matmul dot_S128x128_S128x512_S128x512_1_0_0_1_n_n none k0_pay1 (extractStridedSlice S128x512 ![o, 0] x h) (constant S128x512 .f32 0x00000000#32))
      (broadcastTo S128x512 p broadcasts_S1x512_S128x512) (ix2 r k)
      = ∑ s ∈ Finset.range (o + r.val + 1), col x k s := by
  have e : ∀ s : Fin 128, extractStridedSlice S128x512 ![o, 0] x h (ix2 s k) = (fun n => col x k (o + n)) s.val := fun s => by
    have hs := s.isLt
    show _ = col x k (o + s.val)
    rw [col_of_lt x k (by omega : o + s.val < 1024)]
    refine congrArg x (funext fun a => Fin.ext ?_)
    match a with
    | ⟨0, _⟩ => rfl
    | ⟨1, _⟩ => exact Nat.zero_add _
  have q := bc_row p r k
  have t : matmul dot_S128x128_S128x512_S128x512_1_0_0_1_n_n none k0_pay1 (extractStridedSlice S128x512 ![o, 0] x h) (constant S128x512 .f32 0x00000000#32) (ix2 r k)
      = ∑ s ∈ Finset.range (r.val + 1), col x k (o + s) := by
    refine (Ideal.matmul_plain_apply none _ _ _ r k).trans ?_
    refine (congrArg₂ (· + ·) Ideal.ofBits_zero_f32 ((Finset.sum_congr rfl fun s _ => congrArg₂ (· * ·) rfl (e s)).trans (tri_sum r fun n => col x k (o + n)))).trans ?_
    exact zero_add _
  refine (congrArg₂ (· + ·) t (q.trans (hp k))).trans ?_
  rw [add_assoc o, Finset.sum_range_add (col x k) o, add_comm]

/-- The last row of a block, taken out as a row. -/
theorem last_row (v : FVec Ideal S128x512 .f32) (k : Fin 512) :
    extractStridedSlice S1x512 ![127, 0] v slices_S128x512_o127_0_S1x512 (ix2 0 k) = v (ix2 127 k) := by
  refine congrArg v (funext fun a => Fin.ext ?_)
  match a with
  | ⟨0, _⟩ => rfl
  | ⟨1, _⟩ => exact Nat.zero_add _

/-- Block `g`'s running sums are the column's, from the device's first row. -/
theorem cum_apply (c : Dev nD) (g : Fin 8) (r : Fin 128) (k : Fin 512) :
    cumB m c g (ix2 r k) = ∑ s ∈ Finset.range (128 * g.val + r.val + 1), col (xB m c) k s := by
  have h0 : ∀ (r : Fin 128) (k : Fin 512), k0_pay6 k0_pay1 (k0_pay4 (xB m c)) k0_pay5 (ix2 r k) = ∑ s ∈ Finset.range (0 + r.val + 1), col (xB m c) k s :=
    step_apply slices_S1024x512_o0_0_S128x512 (k0_pay4 (xB m c)) _ (by decide) fun k => Ideal.ofBits_zero_f32
  have h1 : ∀ (r : Fin 128) (k : Fin 512), k0_pay7 k0_pay1 (k0_pay4 (xB m c)) k0_pay5 (ix2 r k) = ∑ s ∈ Finset.range (128 + r.val + 1), col (xB m c) k s :=
    step_apply slices_S1024x512_o128_0_S128x512 (k0_pay4 (xB m c)) _ (by decide) fun k => (last_row _ k).trans (h0 127 k)
  have h2 : ∀ (r : Fin 128) (k : Fin 512), k0_pay8 k0_pay1 (k0_pay4 (xB m c)) k0_pay5 (ix2 r k) = ∑ s ∈ Finset.range (256 + r.val + 1), col (xB m c) k s :=
    step_apply slices_S1024x512_o256_0_S128x512 (k0_pay4 (xB m c)) _ (by decide) fun k => (last_row _ k).trans (h1 127 k)
  have h3 : ∀ (r : Fin 128) (k : Fin 512), k0_pay9 k0_pay1 (k0_pay4 (xB m c)) k0_pay5 (ix2 r k) = ∑ s ∈ Finset.range (384 + r.val + 1), col (xB m c) k s :=
    step_apply slices_S1024x512_o384_0_S128x512 (k0_pay4 (xB m c)) _ (by decide) fun k => (last_row _ k).trans (h2 127 k)
  have h4 : ∀ (r : Fin 128) (k : Fin 512), k0_pay10 k0_pay1 (k0_pay4 (xB m c)) k0_pay5 (ix2 r k) = ∑ s ∈ Finset.range (512 + r.val + 1), col (xB m c) k s :=
    step_apply slices_S1024x512_o512_0_S128x512 (k0_pay4 (xB m c)) _ (by decide) fun k => (last_row _ k).trans (h3 127 k)
  have h5 : ∀ (r : Fin 128) (k : Fin 512), k0_pay11 k0_pay1 (k0_pay4 (xB m c)) k0_pay5 (ix2 r k) = ∑ s ∈ Finset.range (640 + r.val + 1), col (xB m c) k s :=
    step_apply slices_S1024x512_o640_0_S128x512 (k0_pay4 (xB m c)) _ (by decide) fun k => (last_row _ k).trans (h4 127 k)
  have h6 : ∀ (r : Fin 128) (k : Fin 512), k0_pay12 k0_pay1 (k0_pay4 (xB m c)) k0_pay5 (ix2 r k) = ∑ s ∈ Finset.range (768 + r.val + 1), col (xB m c) k s :=
    step_apply slices_S1024x512_o768_0_S128x512 (k0_pay4 (xB m c)) _ (by decide) fun k => (last_row _ k).trans (h5 127 k)
  match g with
  | ⟨0, _⟩ => exact h0 r k
  | ⟨1, _⟩ => exact h1 r k
  | ⟨2, _⟩ => exact h2 r k
  | ⟨3, _⟩ => exact h3 r k
  | ⟨4, _⟩ => exact h4 r k
  | ⟨5, _⟩ => exact h5 r k
  | ⟨6, _⟩ => exact h6 r k
  | ⟨7, _⟩ => exact step_apply slices_S1024x512_o896_0_S128x512 (k0_pay4 (xB m c)) _ (by decide) (fun k => (last_row _ k).trans (h6 127 k)) r k

/-- The sum over the rows of a matrix, made a row. -/
theorem row_sum {R : ℕ} (v : FVec Ideal (shape2 R 512) .f32) (h : (shape2 R 512).Reduces [0] S512) (k : Fin 512) :
    shapeCast S1x512 (multiReduction .add [0] S512 v 0x00000000#32 h (.inl rfl) rfl) shapeCasts_S512_S1x512 (ix2 0 k) = ∑ s : Fin R, v (ix2 s k) := by
  refine (cast12 _ _ 0 k k (by show k.val = 0 * 512 + k.val; omega)).trans ((Ideal.multiReduction_add_single _ _ h _ _ _).trans ?_)
  refine Finset.sum_congr rfl fun s _ => congrArg v (funext fun a => Fin.ext ?_)
  match a with
  | ⟨0, _⟩ => rfl
  | ⟨1, _⟩ => rfl

/-- A device's total of a column is the sum of its rows. -/
theorem tot_apply (c : Dev nD) (k : Fin 512) : totB m c (ix2 0 k) = ∑ s ∈ Finset.range 1024, col (xB m c) k s := by
  refine (row_sum (xB m c) reduces_S1024x512_S512 k).trans ?_
  refine Eq.trans (Finset.sum_congr rfl fun s _ => ?_) (Fin.sum_univ_eq_sum_range (col (xB m c) k) 1024)
  exact (col_of_lt (xB m c) k s.isLt).symm

/-- What a device adds: the totals of the devices before it. -/
theorem acc_apply (c : Dev nD) (k : Fin 512) : accB m c (ix2 0 k) = ∑ d ∈ Finset.range c.val, (fun n => if h : n < 16 then totB m ⟨n, h⟩ (ix2 0 k) else 0) d := by
  have hc : c.val < 16 := c.isLt
  refine (row_sum _ reduces_S16x512_S512 k).trans ?_
  refine Eq.trans (Finset.sum_congr rfl fun d _ => ?_) ((Fin.sum_univ_eq_sum_range (fun n => if n < c.val then (if h : n < 16 then totB m ⟨n, h⟩ (ix2 0 k) else 0) else 0) 16).trans ?_)
  · show (if k0_pay14 (meW c) (ix2 d k) = 1#1 then totB m d (rowIx k) else Ideal.ofBits .f32 0x00000000#32) = if d.val < c.val then (if h : d.val < 16 then totB m ⟨d.val, h⟩ (ix2 0 k) else 0) else 0
    rw [mask_eq, dif_pos d.isLt, Ideal.ofBits_zero_f32]
    refine if_congr (mask_lt c d) (congrArg (totB m d) (funext fun a => ?_)) rfl
    match a with
    | ⟨0, _⟩ => rfl
    | ⟨1, _⟩ => rfl
  · rw [← Finset.sum_filter]
    refine Finset.sum_congr (Finset.ext fun n => ?_) fun _ _ => rfl
    rw [Finset.mem_filter, Finset.mem_range, Finset.mem_range]
    omega

/-! ## Against the whole array -/

variable (X : (shape2 16384 512).Idx → EReal)

/-- The sums of the first blocks of rows, block by block. -/
theorem sum_blocks (f : ℕ → EReal) (n : ℕ) : ∑ d ∈ Finset.range n, ∑ s ∈ Finset.range 1024, f (d * 1024 + s) = ∑ s ∈ Finset.range (n * 1024), f s := by
  induction n with
  | zero => simp
  | succ n ih => rw [Finset.sum_range_succ, ih, Nat.succ_mul, Finset.sum_range_add]

/-- Where each device holds its block of the array's rows, its result holds the array's running sums at those rows. -/
theorem out_apply (hX : ∀ (d : Dev nD) (k : Fin 512) (s : ℕ), s < 1024 → col (xB m d) k s = col X k (d.val * 1024 + s))
    (c : Dev nD) (r : Fin 1024) (k : Fin 512) :
    outF m c (ix2 r k) = ∑ s ∈ Finset.range (c.val * 1024 + r.val + 1), col X k s := by
  have hr := r.isLt
  have e : blkIx ⟨r.val % 128, Nat.mod_lt _ (by decide)⟩ k = ix2 ⟨r.val % 128, Nat.mod_lt _ (by decide)⟩ k := funext fun a => by
    match a with
    | ⟨0, _⟩ => rfl
    | ⟨1, _⟩ => rfl
  have hc : cumB m c ⟨r.val / 128, by omega⟩ (ix2 ⟨r.val % 128, Nat.mod_lt _ (by decide)⟩ k)
      = ∑ s ∈ Finset.range (r.val + 1), col X k (c.val * 1024 + s) := by
    rw [cum_apply, show 128 * (r.val / 128) + r.val % 128 = r.val by omega]
    exact Finset.sum_congr rfl fun s hs => hX c k s (by have := Finset.mem_range.mp hs; omega)
  have ha : accB m c (ix2 0 k) = ∑ s ∈ Finset.range (c.val * 1024), col X k s := by
    rw [acc_apply, ← sum_blocks]
    refine Finset.sum_congr rfl fun d hd => ?_
    have hd16 : d < 16 := lt_trans (Finset.mem_range.mp hd) c.isLt
    refine (dif_pos hd16).trans ((tot_apply m ⟨d, hd16⟩ k).trans ?_)
    exact Finset.sum_congr rfl fun s hs => hX ⟨d, hd16⟩ k s (Finset.mem_range.mp hs)
  show outBlk m c ⟨r.val / 128, _⟩ (blkIx ⟨r.val % 128, _⟩ k) = _
  rw [e]
  unfold outBlk k0_pay19
  refine Eq.trans (shapeCast_apply _ shapeCasts_S128x512_S128x512 _ _ rfl) ?_
  refine (congrArg₂ (· + ·) hc ((bc_row (accB m c) _ k).trans ha)).trans ?_
  rw [add_comm, add_assoc (c.val * 1024), Finset.sum_range_add (col X k) (c.val * 1024)]

end Cert.PrefixSum

end
-- ==== Proof.Agree.lean ====
/-
Kernel and reference agree in exact arithmetic: each device's result is its block of rows of the reference's running
sums.
-/
module

public import proofs.«01_k».proof.Proof.Value
public import proofs.«01_k».proof.Proof.Gen.ReferenceIdeal.Run

@[expose] public section

set_option maxHeartbeats 400000

noncomputable section

namespace Cert.PrefixSum

open Cert.KernelIdeal
open Idealize.ShloMosaic Idealize.ShloMosaic.ValueIdx Idealize.ShloMosaic.Routing Idealize.ShloMosaic.TcCoe

/-- The reference's result. -/
def refOut (X : FVec Ideal Cert.ReferenceIdeal.S16384x512 .f32) : FVec Ideal Cert.ReferenceIdeal.S16384x512 .f32 :=
  Host.reduceWindowAdd ![16384, 1] ![1, 1] ![16383, 0] ![0, 0] X
    (broadcastInDim Cert.ReferenceIdeal.S_ ![] Cert.ReferenceIdeal.Gen.bcast_S_S_ (constant Cert.ReferenceIdeal.S_ .f32 0x00000000#32))
    Cert.ReferenceIdeal.Gen.reduceWindows_S16384x512_S16384x512_w16384s1p16383_0_w1s1p0_0 Cert.ReferenceIdeal.Gen.h_S_

theorem bcast_zero (i : Cert.ReferenceIdeal.S_.Idx) :
    broadcastInDim Cert.ReferenceIdeal.S_ ![] Cert.ReferenceIdeal.Gen.bcast_S_S_ (constant (F := Ideal) Cert.ReferenceIdeal.S_ .f32 0x00000000#32) i = (0 : EReal) :=
  Ideal.ofBits_zero_f32

theorem refOut_apply (X : FVec Ideal Cert.ReferenceIdeal.S16384x512 .f32) (j : Fin 16384) (k : Fin 512) :
    refOut X (ix2 j k) = ∑ s ∈ Finset.range (j.val + 1), col (R := 16384) X k s := by
  unfold refOut Host.reduceWindowAdd
  rw [Ideal.hostReduceWindowAdd_def, bcast_zero]
  exact window_rows (R := 16384) (Rm1 := 16383) rfl X _ j k

variable (m : (ℓ : Loc nD τ sig) → Buf (Elt Ideal) ℓ)

theorem agree (X : FVec Ideal Cert.ReferenceIdeal.S16384x512 .f32)
    (hX : ∀ c : Dev nD, xB m c = Layout.block ⟨2, ![1024, 512]⟩ ⟨2, ![16384, 512]⟩ 0 16 c X) (c : Dev nD) :
    outF m c = Layout.block ⟨2, ![1024, 512]⟩ ⟨2, ![16384, 512]⟩ 0 16 c (refOut X) := by
  have hcol : ∀ (d : Dev nD) (k : Fin 512) (s : ℕ), s < 1024 → col (xB m d) k s = col (R := 16384) X k (d.val * 1024 + s) := fun d k s hs => by
    have hd : d.val < 16 := d.isLt
    rw [col_of_lt (xB m d) k hs, col_of_lt (R := 16384) X k (by omega : d.val * 1024 + s < 16384), hX d, Layout.block_apply]
    refine congrArg X (funext fun a => Fin.ext ?_)
    match a with
    | ⟨0, _⟩ => rfl
    | ⟨1, _⟩ => rfl
  funext i
  have hc : c.val < 16 := c.isLt
  have hi : (i 0).val < 1024 := (i 0).isLt
  have ei : i = ix2 (i 0 : Fin 1024) (i 1 : Fin 512) := funext fun a => by
    match a with
    | ⟨0, _⟩ => rfl
    | ⟨1, _⟩ => rfl
  refine (congrArg (outF m c) ei).trans ((out_apply m X hcol c (i 0) (i 1)).trans ?_)
  rw [Layout.block_apply]
  refine (refOut_apply X ⟨c.val * 1024 + (i 0).val, by omega⟩ (i 1)).symm.trans (congrArg (refOut X) (funext fun a => Fin.ext ?_))
  match a with
  | ⟨0, _⟩ => rfl
  | ⟨1, _⟩ => rfl

end Cert.PrefixSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The run of the program, over any float values, taken at the machine's. -/
theorem frame_kernel : Cert.quiescent_Kernel (hKernel := Cert.Kernel.Gen.facts) := fun m ρ _ =>
  (θ_run Cert.KernelIdeal.defs _ _).mono (fun _ h => ⟨fun c => (h.1 c).1, h.2⟩) (PrefixSum.run_main (F := Bits) m ρ)

theorem frame_kernelIdeal : Cert.quiescent_KernelIdeal (hKernelIdeal := Cert.KernelIdeal.Gen.facts) := fun m ρ _ =>
  (θ_run Cert.KernelIdeal.defs _ _).mono (fun _ h => ⟨fun c => (h.1 c).1, h.2⟩) (PrefixSum.run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference from matching arguments: each device ends with its rows of the reference's result. -/
theorem algebraic_kernelIdeal : Cert.algebraic_KernelIdeal_ReferenceIdeal (hKernelIdeal := Cert.KernelIdeal.Gen.facts)
    (hReferenceIdeal := Cert.ReferenceIdeal.Gen.facts) := fun m g m' g' _ h =>
  ⟨PrefixSum.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ r c => ⟨(r.1 c).2.1.trans (PrefixSum.agree m _ h c), (r.1 c).1⟩) (PrefixSum.run_main (F := Ideal) m g),
    (θ_run Cert.ReferenceIdeal.defs _ _).mono (fun _ r => r 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, algebraic_kernelIdeal⟩

end Cert.Proof

end
